-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v35_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x1024 : Shape := ⟨2, ![16, 1024]⟩
abbrev S16 : Shape := ⟨1, ![16]⟩
abbrev S16x4x4x1000 : Shape := ⟨4, ![16, 4, 4, 1000]⟩
abbrev S1000x1024 : Shape := ⟨2, ![1000, 1024]⟩
abbrev S1024x1024 : Shape := ⟨2, ![1024, 1024]⟩
abbrev S1024x1000 : Shape := ⟨2, ![1024, 1000]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S1024x1000 : S_.BroadcastsInDim S1024x1000 (![] : Fin 0 → Fin S1024x1000.rank)
  reducesTo_S1024x1000_S_d0_1 : S1024x1000.ReducesTo [0, 1] S_

variable [Facts]

def fn {F : FTy → Type} [FloatOps F] (main_arg0 : FVec F S16x1024 .f32) (main_arg1 : IVec S16 32) (main_arg2 : FVec F S16x1024 .f32) (main_arg3 : IVec S16x4x4x1000 1) (main_arg4 : IVec S16 32) (main_arg5 : FVec F S1000x1024 .f32) (main_arg6 : FVec F S1024x1024 .f32) (main_arg7 : FVec F S1024x1024 .f32) (main_arg8 : FVec F S1024x1000 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 1000#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_v6 : FVec F S1024x1000 .f32 := Host.absf main_arg8
  let main_cst : FVec F S_ .f32 := constant S_ .f32 0x58635FA9#32
  let main_v7 : FVec F S1024x1000 .f32 := broadcastInDim S1024x1000 ![] bcast_S_S1024x1000 main_cst
  let main_v8 : IVec S1024x1000 1 := cmpf .ole main_v6 main_v7
  let main_c_2 : IVec S_ 1 := constantI S_ 1 1#1
  let main_v9 : IVec S_ 1 := (fun x v => Host.reduce IntOp.andi x v reducesTo_S1024x1000_S_d0_1 h_S_) main_v8 main_c_2
  let main_v10 : IVec S_ 1 := andi main_v5 main_v9
  main_v10
-- ==== Kernel.lean ====
abbrev S16x1024 : Shape := ⟨2, ![16, 1024]⟩
abbrev S16 : Shape := ⟨1, ![16]⟩
abbrev S16x4x4x1000 : Shape := ⟨4, ![16, 4, 4, 1000]⟩
abbrev S1000x1024 : Shape := ⟨2, ![1000, 1024]⟩
abbrev S1024x1024 : Shape := ⟨2, ![1024, 1024]⟩
abbrev S1024x1000 : Shape := ⟨2, ![1024, 1000]⟩
abbrev S16x1 : Shape := ⟨2, ![16, 1]⟩
abbrev S_ : Shape := ⟨0, ![]⟩
abbrev S1 : Shape := ⟨1, ![1]⟩
abbrev S4x16x1024 : Shape := ⟨3, ![4, 16, 1024]⟩
abbrev S16x1x4x1000 : Shape := ⟨4, ![16, 1, 4, 1000]⟩
abbrev S16x4x1000 : Shape := ⟨3, ![16, 4, 1000]⟩
abbrev S4x16x1000 : Shape := ⟨3, ![4, 16, 1000]⟩
abbrev S4x16x4x1000 : Shape := ⟨4, ![4, 16, 4, 1000]⟩
abbrev S4x16x4x1x1000 : Shape := ⟨5, ![4, 16, 4, 1, 1000]⟩
abbrev S4x16x4x5x1000 : Shape := ⟨5, ![4, 16, 4, 5, 1000]⟩
abbrev S4x16x20x1000 : Shape := ⟨4, ![4, 16, 20, 1000]⟩
abbrev S4x16x24x1024 : Shape := ⟨4, ![4, 16, 24, 1024]⟩
abbrev S2 : Shape := ⟨1, ![2]⟩
abbrev S12x16x24 : Shape := ⟨3, ![12, 16, 24]⟩
abbrev S16x24 : Shape := ⟨2, ![16, 24]⟩
abbrev S1x16x1024 : Shape := ⟨3, ![1, 16, 1024]⟩
abbrev S16x4 : Shape := ⟨2, ![16, 4]⟩
abbrev S1x16x24 : Shape := ⟨3, ![1, 16, 24]⟩
abbrev S16x1x1024 : Shape := ⟨3, ![16, 1, 1024]⟩
abbrev S16x24x1024 : Shape := ⟨3, ![16, 24, 1024]⟩
abbrev S384x1024 : Shape := ⟨2, ![384, 1024]⟩
abbrev S16x24x5 : Shape := ⟨3, ![16, 24, 5]⟩
abbrev S16x24x1 : Shape := ⟨3, ![16, 24, 1]⟩
abbrev S1x16x24x1024 : Shape := ⟨4, ![1, 16, 24, 1024]⟩
abbrev S16x1x1 : Shape := ⟨3, ![16, 1, 1]⟩
abbrev S12x16x20 : Shape := ⟨3, ![12, 16, 20]⟩
abbrev S16x20x12 : Shape := ⟨3, ![16, 20, 12]⟩
abbrev S16x4x5x12 : Shape := ⟨4, ![16, 4, 5, 12]⟩
abbrev S16x20 : Shape := ⟨2, ![16, 20]⟩
abbrev S16x4x5 : Shape := ⟨3, ![16, 4, 5]⟩

abbrev nBuf : Space → Nat
  | .hbm => 48
  | .vmem => 11
  | .smem => 0
  | _ => 0

abbrev bufTy : (tb : Table) → Fin (tcTables nBuf tb) → BufTy
  | .hbm, ⟨0, _⟩ => ⟨S16x1024, .f32⟩
  | .hbm, ⟨1, _⟩ => ⟨S16, .i32⟩
  | .hbm, ⟨2, _⟩ => ⟨S16x1024, .f32⟩
  | .hbm, ⟨3, _⟩ => ⟨S16x4x4x1000, .i1⟩
  | .hbm, ⟨4, _⟩ => ⟨S16, .i32⟩
  | .hbm, ⟨5, _⟩ => ⟨S1000x1024, .f32⟩
  | .hbm, ⟨6, _⟩ => ⟨S1024x1024, .f32⟩
  | .hbm, ⟨7, _⟩ => ⟨S1024x1024, .f32⟩
  | .hbm, ⟨8, _⟩ => ⟨S1024x1000, .f32⟩
  | .hbm, ⟨9, _⟩ => ⟨S16x1, .i32⟩
  | .hbm, ⟨10, _⟩ => ⟨S_, .f32⟩
  | .hbm, ⟨11, _⟩ => ⟨S1024x1024, .f32⟩
  | .hbm, ⟨12, _⟩ => ⟨S_, .i32⟩
  | .hbm, ⟨13, _⟩ => ⟨S1, .i32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S_, .i32⟩
  | .hbm, ⟨18, _⟩ => ⟨S1, .i32⟩
  | .hbm, ⟨19, _⟩ => ⟨S1024x1024, .f32⟩
  | .hbm, ⟨20, _⟩ => ⟨S16x4x4x1000, .i8⟩
  | .hbm, ⟨21, _⟩ => ⟨S_, .i8⟩
  | .hbm, ⟨22, _⟩ => ⟨S4x16x1024, .i8⟩
  | .hbm, ⟨23, _⟩ => ⟨S16x1x4x1000, .i8⟩
  | .hbm, ⟨24, _⟩ => ⟨S16x4x1000, .i8⟩
  | .hbm, ⟨25, _⟩ => ⟨S4x16x1000, .i8⟩
  | .hbm, ⟨26, _⟩ => ⟨S_, .i32⟩
  | .hbm, ⟨27, _⟩ => ⟨S1, .i32⟩
  | .hbm, ⟨28, _⟩ => ⟨S4x16x1024, .i8⟩
  | .hbm, ⟨29, _⟩ => ⟨S4x16x4x1000, .i8⟩
  | .hbm, ⟨30, _⟩ => ⟨S4x16x4x1x1000, .i8⟩
  | .hbm, ⟨31, _⟩ => ⟨S4x16x4x5x1000, .i8⟩
  | .hbm, ⟨32, _⟩ => ⟨S4x16x20x1000, .i8⟩
  | .hbm, ⟨33, _⟩ => ⟨S_, .i8⟩
  | .hbm, ⟨34, _⟩ => ⟨S4x16x24x1024, .i8⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S4x16x24x1024, .i8⟩
  | .hbm, ⟨41, _⟩ => ⟨S12x16x24, .i32⟩
  | .hbm, ⟨42, _⟩ => ⟨S16x24, .f32⟩
  | .hbm, ⟨43, _⟩ => ⟨S12x16x20, .i32⟩
  | .hbm, ⟨44, _⟩ => ⟨S16x20x12, .i32⟩
  | .hbm, ⟨45, _⟩ => ⟨S16x4x5x12, .i32⟩
  | .hbm, ⟨46, _⟩ => ⟨S16x20, .f32⟩
  | .hbm, ⟨47, _⟩ => ⟨S16x4x5, .f32⟩
  | .local _ .vmem, ⟨0, _⟩ => ⟨S16x1024, .f32⟩
  | .local _ .vmem, ⟨1, _⟩ => ⟨S16x1, .i32⟩
  | .local _ .vmem, ⟨2, _⟩ => ⟨S16x1024, .f32⟩
  | .local _ .vmem, ⟨3, _⟩ => ⟨S4x16x1024, .i8⟩
  | .local _ .vmem, ⟨4, _⟩ => ⟨S4x16x24x1024, .i8⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S12x16x24, .i32⟩
  | .local _ .vmem, ⟨10, _⟩ => ⟨S16x24, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_122 : BitVec 32 := 0#32
  let c11_i32 : BitVec 32 := 11#32
  let v327 : BitVec 32 := Scalar.addi c0_i32_122 c11_i32
  let c1_i32 : BitVec 32 := 1#32
  ⟨c0_i32_122, v327, c1_i32⟩
abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16x24x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x16x24 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x1024 : Shape := ⟨2, ![16, 1024]⟩
abbrev S16 : Shape := ⟨1, ![16]⟩
abbrev S16x4x4x1000 : Shape := ⟨4, ![16, 4, 4, 1000]⟩
abbrev S1000x1024 : Shape := ⟨2, ![1000, 1024]⟩
abbrev S1024x1024 : Shape := ⟨2, ![1024, 1024]⟩
abbrev S1024x1000 : Shape := ⟨2, ![1024, 1000]⟩
abbrev S_ : Shape := ⟨0, ![]⟩
abbrev S16x1 : Shape := ⟨2, ![16, 1]⟩
abbrev S16x1000 : Shape := ⟨2, ![16, 1000]⟩
abbrev S16x1x1000 : Shape := ⟨3, ![16, 1, 1000]⟩
abbrev S16x4x1000 : Shape := ⟨3, ![16, 4, 1000]⟩
abbrev S16x1x4x1000 : Shape := ⟨4, ![16, 1, 4, 1000]⟩
abbrev S16x4x5 : Shape := ⟨3, ![16, 4, 5]⟩
abbrev S16x20 : Shape := ⟨2, ![16, 20]⟩
abbrev S1000 : Shape := ⟨1, ![1000]⟩
abbrev S1x1000 : Shape := ⟨2, ![1, 1000]⟩
abbrev S16x1x1x1024 : Shape := ⟨4, ![16, 1, 1, 1024]⟩
abbrev S16x4x5x1024 : Shape := ⟨4, ![16, 4, 5, 1024]⟩
abbrev S320x1024 : Shape := ⟨2, ![320, 1024]⟩
abbrev S16x4x4x1x1000 : Shape := ⟨5, ![16, 4, 4, 1, 1000]⟩
abbrev S16x4x4x5x1000 : Shape := ⟨5, ![16, 4, 4, 5, 1000]⟩
abbrev S16x20x1 : Shape := ⟨3, ![16, 20, 1]⟩
abbrev S16x20x12 : Shape := ⟨3, ![16, 20, 12]⟩
abbrev S320 : Shape := ⟨1, ![320]⟩
abbrev S320x1 : Shape := ⟨2, ![320, 1]⟩
abbrev S320x1000 : Shape := ⟨2, ![320, 1000]⟩
abbrev S16x4x5x1000 : Shape := ⟨4, ![16, 4, 5, 1000]⟩
abbrev S16x4x5x1 : Shape := ⟨4, ![16, 4, 5, 1]⟩
abbrev S16x4x5x5 : Shape := ⟨4, ![16, 4, 5, 5]⟩
abbrev S16x4x1x5x1000 : Shape := ⟨5, ![16, 4, 1, 5, 1000]⟩
abbrev S16x100 : Shape := ⟨2, ![16, 100]⟩
abbrev S16x5 : Shape := ⟨2, ![16, 5]⟩
abbrev S16x5x1 : Shape := ⟨3, ![16, 5, 1]⟩
abbrev S1 : Shape := ⟨1, ![1]⟩
abbrev S1x1x1 : Shape := ⟨3, ![1, 1, 1]⟩
abbrev S16x1x5 : Shape := ⟨3, ![16, 1, 5]⟩
abbrev S16x20x1024 : Shape := ⟨3, ![16, 20, 1024]⟩
abbrev S12 : Shape := ⟨1, ![12]⟩
abbrev S16x4x5x12 : Shape := ⟨4, ![16, 4, 5, 12]⟩

abbrev nBuf : Space → Nat
  | .hbm => 367
  | .vmem => 0
  | .smem => 0
  | _ => 0

abbrev hbmTy0_0 (i : Nat) : BufTy := match i % 128 with
  | 0 => ⟨S16x1024, .f32⟩
  | 1 => ⟨S16, .i32⟩
  | 2 => ⟨S16x1024, .f32⟩
  | 3 => ⟨S16x4x4x1000, .i1⟩
  | 4 => ⟨S16, .i32⟩
  | 5 => ⟨S1000x1024, .f32⟩
  | 6 => ⟨S1024x1024, .f32⟩
  | 7 => ⟨S1024x1024, .f32⟩
  | 8 => ⟨S1024x1000, .f32⟩
  | 9 => ⟨S_, .i32⟩
  | 10 => ⟨S16, .i32⟩
  | 11 => ⟨S16, .i1⟩
  | 12 => ⟨S_, .i32⟩
  | 13 => ⟨S16, .i32⟩
  | 14 => ⟨S16, .i32⟩
  | 15 => ⟨S16, .i32⟩
  | 16 => ⟨S16x1, .i32⟩
  | 17 => ⟨S16x1024, .f32⟩
  | 18 => ⟨S16x1024, .f32⟩
  | 19 => ⟨S16x1024, .f32⟩
  | 20 => ⟨S16x1024, .f32⟩
  | 21 => ⟨S16x1024, .f32⟩
  | 22 => ⟨S16x1024, .f32⟩
  | 23 => ⟨S16x1000, .f32⟩
  | 24 => ⟨S_, .f32⟩
  | 25 => ⟨S16, .f32⟩
  | 26 => ⟨S_, .f32⟩
  | 27 => ⟨S16, .f32⟩
  | 28 => ⟨S16, .f32⟩
  | 29 => ⟨S16x1, .f32⟩
  | 30 => ⟨S16x1000, .f32⟩
  | 31 => ⟨S16x1000, .f32⟩
  | 32 => ⟨S16x1000, .f32⟩
  | 33 => ⟨S_, .f32⟩
  | 34 => ⟨S16, .f32⟩
  | 35 => ⟨S16x1, .f32⟩
  | 36 => ⟨S16x1, .f32⟩
  | 37 => ⟨S16x1000, .f32⟩
  | 38 => ⟨S16x1000, .f32⟩
  | 39 => ⟨S16x1x1000, .f32⟩
  | 40 => ⟨S16x4x1000, .f32⟩
  | 41 => ⟨S16x1x4x1000, .i1⟩
  | 42 => ⟨S16x4x1000, .i1⟩
  | 43 => ⟨S_, .f32⟩
  | 44 => ⟨S_, .f32⟩
  | 45 => ⟨S16x4x1000, .f32⟩
  | 46 => ⟨S16x4x1000, .f32⟩
  | 47 => ⟨S16x4x5, .f32⟩
  | 48 => ⟨S16x4x5, .i32⟩
  | 49 => ⟨S16x20, .i32⟩
  | 50 => ⟨S1000, .i32⟩
  | 51 => ⟨S_, .i32⟩
  | 52 => ⟨S1000, .i32⟩
  | 53 => ⟨S1000, .i1⟩
  | 54 => ⟨S_, .f32⟩
  | 55 => ⟨S_, .f32⟩
  | 56 => ⟨S1000, .f32⟩
  | 57 => ⟨S1000, .f32⟩
  | 58 => ⟨S1000, .f32⟩
  | 59 => ⟨S1x1000, .f32⟩
  | 60 => ⟨S16x1x1x1024, .f32⟩
  | 61 => ⟨S16x4x5x1024, .f32⟩
  | 62 => ⟨S320x1024, .f32⟩
  | 63 => ⟨S16x1x1x1024, .f32⟩
  | 64 => ⟨S16x4x5x1024, .f32⟩
  | 65 => ⟨S320x1024, .f32⟩
  | 66 => ⟨S16x4x4x1x1000, .i1⟩
  | 67 => ⟨S16x4x4x5x1000, .i1⟩
  | 68 => ⟨S16x20x1, .i32⟩
  | 69 => ⟨S16x20x12, .i32⟩
  | 70 => ⟨S_, .i32⟩
  | 71 => ⟨S_, .i32⟩
  | 72 => ⟨S1000x1024, .f32⟩
  | 73 => ⟨S1024x1024, .f32⟩
  | 74 => ⟨S320x1024, .f32⟩
  | 75 => ⟨S1024x1024, .f32⟩
  | 76 => ⟨S1024x1000, .f32⟩
  | 77 => ⟨S1x1000, .f32⟩
  | 78 => ⟨S16x4x4x5x1000, .i1⟩
  | 79 => ⟨S_, .i32⟩
  | 80 => ⟨S_, .i32⟩
  | 81 => ⟨S16x20, .i32⟩
  | 82 => ⟨S16x4x5, .f32⟩
  | 83 => ⟨S320x1024, .f32⟩
  | 84 => ⟨S16x20x12, .i32⟩
  | 85 => ⟨S_, .i32⟩
  | 86 => ⟨S_, .i1⟩
  | 87 => ⟨S_, .i32⟩
  | 88 => ⟨S_, .i32⟩
  | 89 => ⟨S320, .i32⟩
  | 90 => ⟨S_, .i32⟩
  | 91 => ⟨S320, .i32⟩
  | 92 => ⟨S320, .i1⟩
  | 93 => ⟨S_, .i32⟩
  | 94 => ⟨S320, .i32⟩
  | 95 => ⟨S320, .i32⟩
  | 96 => ⟨S320, .i32⟩
  | 97 => ⟨S320x1, .i32⟩
  | 98 => ⟨S320x1024, .f32⟩
  | 99 => ⟨S320x1024, .f32⟩
  | 100 => ⟨S320x1024, .f32⟩
  | 101 => ⟨S320x1024, .f32⟩
  | 102 => ⟨S320x1024, .f32⟩
  | 103 => ⟨S320x1024, .f32⟩
  | 104 => ⟨S320x1000, .f32⟩
  | 105 => ⟨S_, .f32⟩
  | 106 => ⟨S320, .f32⟩
  | 107 => ⟨S_, .f32⟩
  | 108 => ⟨S320, .f32⟩
  | 109 => ⟨S320, .f32⟩
  | 110 => ⟨S320x1, .f32⟩
  | 111 => ⟨S320x1000, .f32⟩
  | 112 => ⟨S320x1000, .f32⟩
  | 113 => ⟨S320x1000, .f32⟩
  | 114 => ⟨S_, .f32⟩
  | 115 => ⟨S320, .f32⟩
  | 116 => ⟨S320x1, .f32⟩
  | 117 => ⟨S320x1, .f32⟩
  | 118 => ⟨S320x1000, .f32⟩
  | 119 => ⟨S320x1000, .f32⟩
  | 120 => ⟨S_, .i32⟩
  | 121 => ⟨S320, .i32⟩
  | 122 => ⟨S320, .i1⟩
  | 123 => ⟨S320x1, .i1⟩
  | 124 => ⟨S1x1000, .f32⟩
  | 125 => ⟨S320x1000, .i1⟩
  | 126 => ⟨S320x1000, .f32⟩
  | 127 => ⟨S320x1000, .f32⟩
  | _ => ⟨S16x1024, .f32⟩

abbrev hbmTy0_1 (i : Nat) : BufTy := match i % 128 with
  | 0 => ⟨S16x4x5x1000, .f32⟩
  | 1 => ⟨S16x4x5x1, .f32⟩
  | 2 => ⟨S16x4x5x5, .f32⟩
  | 3 => ⟨S16x4x1x5x1000, .i1⟩
  | 4 => ⟨S16x4x5x1000, .i1⟩
  | 5 => ⟨S_, .f32⟩
  | 6 => ⟨S_, .f32⟩
  | 7 => ⟨S16x4x5x1000, .f32⟩
  | 8 => ⟨S16x4x5x1000, .f32⟩
  | 9 => ⟨S16x4x5x5, .f32⟩
  | 10 => ⟨S16x4x5x5, .i32⟩
  | 11 => ⟨S16x4x5x5, .f32⟩
  | 12 => ⟨S16x100, .f32⟩
  | 13 => ⟨S16x100, .i32⟩
  | 14 => ⟨S16x5, .f32⟩
  | 15 => ⟨S16x5, .i32⟩
  | 16 => ⟨S_, .i32⟩
  | 17 => ⟨S16x5, .i32⟩
  | 18 => ⟨S16x5, .i1⟩
  | 19 => ⟨S_, .i32⟩
  | 20 => ⟨S16x5, .i32⟩
  | 21 => ⟨S16x5, .i32⟩
  | 22 => ⟨S16x5, .i32⟩
  | 23 => ⟨S16x5x1, .i32⟩
  | 24 => ⟨S1, .i32⟩
  | 25 => ⟨S_, .i32⟩
  | 26 => ⟨S16x5x1, .i32⟩
  | 27 => ⟨S16x5x1, .i1⟩
  | 28 => ⟨S1x1x1, .i32⟩
  | 29 => ⟨S16x5x1, .i32⟩
  | 30 => ⟨S16x5x1, .i1⟩
  | 31 => ⟨S16x5x1, .i1⟩
  | 32 => ⟨S_, .i1⟩
  | 33 => ⟨S16x5, .i1⟩
  | 34 => ⟨S16x5, .i32⟩
  | 35 => ⟨S_, .i32⟩
  | 36 => ⟨S16x5, .i32⟩
  | 37 => ⟨S16x5, .i32⟩
  | 38 => ⟨S16x4x1x5x1000, .i1⟩
  | 39 => ⟨S16x4x5x1000, .i1⟩
  | 40 => ⟨S_, .f32⟩
  | 41 => ⟨S_, .f32⟩
  | 42 => ⟨S16x4x5x1000, .f32⟩
  | 43 => ⟨S16x4x5x1000, .f32⟩
  | 44 => ⟨S16x4x5x5, .f32⟩
  | 45 => ⟨S16x4x5x5, .i32⟩
  | 46 => ⟨S16x4x5x5, .f32⟩
  | 47 => ⟨S16x100, .f32⟩
  | 48 => ⟨S16x100, .i32⟩
  | 49 => ⟨S16x5, .f32⟩
  | 50 => ⟨S16x5, .i32⟩
  | 51 => ⟨S_, .i32⟩
  | 52 => ⟨S16x5, .i32⟩
  | 53 => ⟨S16x5, .i1⟩
  | 54 => ⟨S_, .i32⟩
  | 55 => ⟨S16x5, .i32⟩
  | 56 => ⟨S16x5, .i32⟩
  | 57 => ⟨S16x5, .i32⟩
  | 58 => ⟨S16x5x1, .i32⟩
  | 59 => ⟨S1, .i32⟩
  | 60 => ⟨S_, .i32⟩
  | 61 => ⟨S16x5x1, .i32⟩
  | 62 => ⟨S16x5x1, .i1⟩
  | 63 => ⟨S1x1x1, .i32⟩
  | 64 => ⟨S16x5x1, .i32⟩
  | 65 => ⟨S16x5x1, .i1⟩
  | 66 => ⟨S16x5x1, .i1⟩
  | 67 => ⟨S_, .i1⟩
  | 68 => ⟨S16x5, .i1⟩
  | 69 => ⟨S16x5, .i32⟩
  | 70 => ⟨S_, .i32⟩
  | 71 => ⟨S16x5, .i32⟩
  | 72 => ⟨S16x5, .i32⟩
  | 73 => ⟨S16x4x1x5x1000, .i1⟩
  | 74 => ⟨S16x4x5x1000, .i1⟩
  | 75 => ⟨S_, .f32⟩
  | 76 => ⟨S_, .f32⟩
  | 77 => ⟨S16x4x5x1000, .f32⟩
  | 78 => ⟨S16x4x5x1000, .f32⟩
  | 79 => ⟨S16x4x5x5, .f32⟩
  | 80 => ⟨S16x4x5x5, .i32⟩
  | 81 => ⟨S16x4x5x5, .f32⟩
  | 82 => ⟨S16x100, .f32⟩
  | 83 => ⟨S16x100, .i32⟩
  | 84 => ⟨S16x5, .f32⟩
  | 85 => ⟨S16x5, .i32⟩
  | 86 => ⟨S_, .i32⟩
  | 87 => ⟨S16x5, .i32⟩
  | 88 => ⟨S16x5, .i1⟩
  | 89 => ⟨S_, .i32⟩
  | 90 => ⟨S16x5, .i32⟩
  | 91 => ⟨S16x5, .i32⟩
  | 92 => ⟨S16x5, .i32⟩
  | 93 => ⟨S16x5x1, .i32⟩
  | 94 => ⟨S1, .i32⟩
  | 95 => ⟨S_, .i32⟩
  | 96 => ⟨S16x5x1, .i32⟩
  | 97 => ⟨S16x5x1, .i1⟩
  | 98 => ⟨S1x1x1, .i32⟩
  | 99 => ⟨S16x5x1, .i32⟩
  | 100 => ⟨S16x5x1, .i1⟩
  | 101 => ⟨S16x5x1, .i1⟩
  | 102 => ⟨S_, .i1⟩
  | 103 => ⟨S16x5, .i1⟩
  | 104 => ⟨S16x5, .i32⟩
  | 105 => ⟨S_, .i32⟩
  | 106 => ⟨S16x5, .i32⟩
  | 107 => ⟨S16x5, .i32⟩
  | 108 => ⟨S16x4x1x5x1000, .i1⟩
  | 109 => ⟨S16x4x5x1000, .i1⟩
  | 110 => ⟨S_, .f32⟩
  | 111 => ⟨S_, .f32⟩
  | 112 => ⟨S16x4x5x1000, .f32⟩
  | 113 => ⟨S16x4x5x1000, .f32⟩
  | 114 => ⟨S16x4x5x5, .f32⟩
  | 115 => ⟨S16x4x5x5, .i32⟩
  | 116 => ⟨S16x4x5x5, .f32⟩
  | 117 => ⟨S16x100, .f32⟩
  | 118 => ⟨S16x100, .i32⟩
  | 119 => ⟨S16x5, .f32⟩
  | 120 => ⟨S16x5, .i32⟩
  | 121 => ⟨S_, .i32⟩
  | 122 => ⟨S16x5, .i32⟩
  | 123 => ⟨S16x5, .i1⟩
  | 124 => ⟨S_, .i32⟩
  | 125 => ⟨S16x5, .i32⟩
  | 126 => ⟨S16x5, .i32⟩
  | 127 => ⟨S16x5, .i32⟩
  | _ => ⟨S16x1024, .f32⟩

abbrev hbmTy0_2 (i : Nat) : BufTy := match i % 128 with
  | 0 => ⟨S16x5x1, .i32⟩
  | 1 => ⟨S1, .i32⟩
  | 2 => ⟨S_, .i32⟩
  | 3 => ⟨S16x5x1, .i32⟩
  | 4 => ⟨S16x5x1, .i1⟩
  | 5 => ⟨S1x1x1, .i32⟩
  | 6 => ⟨S16x5x1, .i32⟩
  | 7 => ⟨S16x5x1, .i1⟩
  | 8 => ⟨S16x5x1, .i1⟩
  | 9 => ⟨S_, .i1⟩
  | 10 => ⟨S16x5, .i1⟩
  | 11 => ⟨S16x5, .i32⟩
  | 12 => ⟨S_, .i32⟩
  | 13 => ⟨S16x5, .i32⟩
  | 14 => ⟨S16x5, .i32⟩
  | 15 => ⟨S16x1x5, .i32⟩
  | 16 => ⟨S16x1x5, .i32⟩
  | 17 => ⟨S16x1x5, .i32⟩
  | 18 => ⟨S16x1x5, .i32⟩
  | 19 => ⟨S16x4x5, .i32⟩
  | 20 => ⟨S16x20, .i32⟩
  | 21 => ⟨S16x1x5, .f32⟩
  | 22 => ⟨S16x1x5, .f32⟩
  | 23 => ⟨S16x1x5, .f32⟩
  | 24 => ⟨S16x1x5, .f32⟩
  | 25 => ⟨S16x4x5, .f32⟩
  | 26 => ⟨S16x1x5, .i32⟩
  | 27 => ⟨S16x1x5, .i32⟩
  | 28 => ⟨S16x1x5, .i32⟩
  | 29 => ⟨S16x1x5, .i32⟩
  | 30 => ⟨S16x4x5, .i32⟩
  | 31 => ⟨S_, .i32⟩
  | 32 => ⟨S_, .i32⟩
  | 33 => ⟨S16x4x5, .i32⟩
  | 34 => ⟨S16x4x5, .i32⟩
  | 35 => ⟨S16x4x5, .i32⟩
  | 36 => ⟨S_, .i32⟩
  | 37 => ⟨S16x4x5, .i32⟩
  | 38 => ⟨S16x4x5, .i1⟩
  | 39 => ⟨S16x4x5, .i32⟩
  | 40 => ⟨S16x4x5, .i32⟩
  | 41 => ⟨S_, .i32⟩
  | 42 => ⟨S16x4x5, .i32⟩
  | 43 => ⟨S16x4x5, .i1⟩
  | 44 => ⟨S16x4x5, .i1⟩
  | 45 => ⟨S_, .i32⟩
  | 46 => ⟨S16x4x5, .i32⟩
  | 47 => ⟨S16x4x5, .i32⟩
  | 48 => ⟨S16x4x5, .i32⟩
  | 49 => ⟨S16x20, .i32⟩
  | 50 => ⟨S16x20x1024, .f32⟩
  | 51 => ⟨S16x20x1, .i32⟩
  | 52 => ⟨S_, .i32⟩
  | 53 => ⟨S16x20x1, .i32⟩
  | 54 => ⟨S16x20x1, .i1⟩
  | 55 => ⟨S_, .i32⟩
  | 56 => ⟨S16x20x1, .i32⟩
  | 57 => ⟨S16x20x1, .i32⟩
  | 58 => ⟨S16x20x1, .i32⟩
  | 59 => ⟨S1, .i32⟩
  | 60 => ⟨S_, .i32⟩
  | 61 => ⟨S16x20x1, .i32⟩
  | 62 => ⟨S16x20x1, .i1⟩
  | 63 => ⟨S1x1x1, .i32⟩
  | 64 => ⟨S16x20x1, .i32⟩
  | 65 => ⟨S16x20x1, .i1⟩
  | 66 => ⟨S16x20x1, .i1⟩
  | 67 => ⟨S_, .i1⟩
  | 68 => ⟨S16x20, .i1⟩
  | 69 => ⟨S16x20x1024, .f32⟩
  | 70 => ⟨S16x20x1024, .i1⟩
  | 71 => ⟨S_, .f32⟩
  | 72 => ⟨S16x20x1024, .f32⟩
  | 73 => ⟨S16x20x1024, .f32⟩
  | 74 => ⟨S320x1024, .f32⟩
  | 75 => ⟨S16x20x1, .i32⟩
  | 76 => ⟨S_, .i32⟩
  | 77 => ⟨S16x20x1, .i32⟩
  | 78 => ⟨S16x20x1, .i1⟩
  | 79 => ⟨S_, .i32⟩
  | 80 => ⟨S16x20x1, .i32⟩
  | 81 => ⟨S16x20x1, .i32⟩
  | 82 => ⟨S16x20x1, .i32⟩
  | 83 => ⟨S1, .i32⟩
  | 84 => ⟨S_, .i32⟩
  | 85 => ⟨S16x20x1, .i32⟩
  | 86 => ⟨S16x20x1, .i1⟩
  | 87 => ⟨S1x1x1, .i32⟩
  | 88 => ⟨S16x20x1, .i32⟩
  | 89 => ⟨S16x20x1, .i1⟩
  | 90 => ⟨S16x20x1, .i1⟩
  | 91 => ⟨S_, .i1⟩
  | 92 => ⟨S16x20, .i1⟩
  | 93 => ⟨S16x20x12, .i32⟩
  | 94 => ⟨S16x20x12, .i1⟩
  | 95 => ⟨S_, .i32⟩
  | 96 => ⟨S16x20x12, .i32⟩
  | 97 => ⟨S16x20x12, .i32⟩
  | 98 => ⟨S12, .i32⟩
  | 99 => ⟨S_, .i32⟩
  | 100 => ⟨S_, .i32⟩
  | 101 => ⟨S_, .i32⟩
  | 102 => ⟨S12, .i32⟩
  | 103 => ⟨S12, .i1⟩
  | 104 => ⟨S16x20x1, .i32⟩
  | 105 => ⟨S16x20x12, .i1⟩
  | 106 => ⟨S16x20x12, .i32⟩
  | 107 => ⟨S16x20x12, .i32⟩
  | 108 => ⟨S_, .i32⟩
  | 109 => ⟨S_, .i32⟩
  | 110 => ⟨S16x4x5x12, .i32⟩
  | _ => ⟨S16x1024, .f32⟩

abbrev hbmTy (i : Nat) : BufTy := match i / 128 with
  | 0 => hbmTy0_0 i
  | 1 => hbmTy0_1 i
  | 2 => hbmTy0_2 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_v18 : Ref sig .tc := ⟨.hbm, 46, rfl⟩
abbrev main_values : Ref sig .tc := ⟨.hbm, 47, rfl⟩
abbrev main_indices : Ref sig .tc := ⟨.hbm, 48, rfl⟩
abbrev main_v19 : Ref sig .tc := ⟨.hbm, 49, rfl⟩
abbrev main_v20 : Ref sig .tc := ⟨.hbm, 50, rfl⟩
abbrev main_c_1 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_cst_3 : Ref sig .tc := ⟨.hbm, 55, rfl⟩
abbrev main_call2_v0 : Ref sig .tc := ⟨.hbm, 56, rfl⟩
abbrev main_call2_v1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_4 : Ref sig .tc := ⟨.hbm, 70, rfl⟩
abbrev main_c_5 : Ref sig .tc := ⟨.hbm, 71, rfl⟩
abbrev main_v35_0 : Ref sig .tc := ⟨.hbm, 72, rfl⟩
abbrev main_v35_1 : Ref sig .tc := ⟨.hbm, 73, rfl⟩
abbrev main_v35_2 : Ref sig .tc := ⟨.hbm, 74, rfl⟩
abbrev main_v35_3 : Ref sig .tc := ⟨.hbm, 75, rfl⟩
abbrev main_v35_4 : Ref sig .tc := ⟨.hbm, 76, rfl⟩
abbrev main_v35_5 : Ref sig .tc := ⟨.hbm, 77, rfl⟩
abbrev main_v35_6 : Ref sig .tc := ⟨.hbm, 78, rfl⟩
abbrev main_v35_7 : Ref sig .tc := ⟨.hbm, 79, rfl⟩
abbrev main_v35_8 : Ref sig .tc := ⟨.hbm, 80, rfl⟩
abbrev main_v35_9 : Ref sig .tc := ⟨.hbm, 81, rfl⟩
abbrev main_v35_10 : Ref sig .tc := ⟨.hbm, 82, rfl⟩
abbrev main_v35_11 : Ref sig .tc := ⟨.hbm, 83, rfl⟩
abbrev main_v35_12 : Ref sig .tc := ⟨.hbm, 84, rfl⟩
abbrev main_while0c_c_18 : Ref sig .tc := ⟨.hbm, 85, rfl⟩
abbrev main_while0c_v37 : Ref sig .tc := ⟨.hbm, 86, rfl⟩
abbrev main_while0b_c_18 : Ref sig .tc := ⟨.hbm, 87, rfl⟩
abbrev main_while0b_v37 : Ref sig .tc := ⟨.hbm, 88, rfl⟩
abbrev main_while0b_v38 : Ref sig .tc := ⟨.hbm, 89, rfl⟩
abbrev main_while0b_c_19 : Ref sig .tc := ⟨.hbm, 90, rfl⟩
abbrev main_while0b_v39 : Ref sig .tc := ⟨.hbm, 91, rfl⟩
abbrev main_while0b_v40 : Ref sig .tc := ⟨.hbm, 92, rfl⟩
abbrev main_while0b_c_20 : Ref sig .tc := ⟨.hbm, 93, rfl⟩
abbrev main_while0b_v41 : Ref sig .tc := ⟨.hbm, 94, rfl⟩
abbrev main_while0b_v42 : Ref sig .tc := ⟨.hbm, 95, rfl⟩
abbrev main_while0b_v43 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_call3_cst : Ref sig .tc := ⟨.hbm, 105, rfl⟩
abbrev main_while0b_call3_v0 : Ref sig .tc := ⟨.hbm, 106, rfl⟩
abbrev main_while0b_call3_cst_0 : Ref sig .tc := ⟨.hbm, 107, rfl⟩
abbrev main_while0b_call3_v1 : Ref sig .tc := ⟨.hbm, 108, rfl⟩
abbrev main_while0b_call3_v2 : Ref sig .tc := ⟨.hbm, 109, rfl⟩
abbrev main_while0b_call3_v3 : Ref sig .tc := ⟨.hbm, 110, rfl⟩
abbrev main_while0b_call3_v4 : Ref sig .tc := ⟨.hbm, 111, rfl⟩
abbrev main_while0b_call3_v5 : Ref sig .tc := ⟨.hbm, 112, rfl⟩
abbrev main_while0b_call3_v6 : Ref sig .tc := ⟨.hbm, 113, rfl⟩
abbrev main_while0b_call3_cst_1 : Ref sig .tc := ⟨.hbm, 114, rfl⟩
abbrev main_while0b_call3_v7 : Ref sig .tc := ⟨.hbm, 115, rfl⟩
abbrev main_while0b_call3_v8 : Ref sig .tc := ⟨.hbm, 116, rfl⟩
abbrev main_while0b_call3_v9 : Ref sig .tc := ⟨.hbm, 117, rfl⟩
abbrev main_while0b_call3_v10 : Ref sig .tc := ⟨.hbm, 118, rfl⟩
abbrev main_while0b_v52 : Ref sig .tc := ⟨.hbm, 119, rfl⟩
abbrev main_while0b_c_21 : Ref sig .tc := ⟨.hbm, 120, rfl⟩
abbrev main_while0b_v53 : Ref sig .tc := ⟨.hbm, 121, rfl⟩
abbrev main_while0b_v54 : Ref sig .tc := ⟨.hbm, 122, rfl⟩
abbrev main_while0b_v55 : Ref sig .tc := ⟨.hbm, 123, rfl⟩
abbrev main_while0b_call4_v0 : Ref sig .tc := ⟨.hbm, 124, rfl⟩
abbrev main_while0b_call4_v1 : Ref sig .tc := ⟨.hbm, 125, rfl⟩
abbrev main_while0b_call4_v2 : Ref sig .tc := ⟨.hbm, 126, rfl⟩
abbrev main_while0b_v56 : Ref sig .tc := ⟨.hbm, 127, rfl⟩
abbrev main_while0b_v57 : Ref sig .tc := ⟨.hbm, 128, rfl⟩
abbrev main_while0b_v58 : Ref sig .tc := ⟨.hbm, 129, rfl⟩
abbrev main_while0b_v59 : Ref sig .tc := ⟨.hbm, 130, rfl⟩
abbrev main_while0b_v60 : Ref sig .tc := ⟨.hbm, 131, rfl⟩
abbrev main_while0b_v61 : Ref sig .tc := ⟨.hbm, 132, rfl⟩
abbrev main_while0b_cst_22 : Ref sig .tc := ⟨.hbm, 133, rfl⟩
abbrev main_while0b_call5_v0 : Ref sig .tc := ⟨.hbm, 134, rfl⟩
abbrev main_while0b_call5_v1 : Ref sig .tc := ⟨.hbm, 135, rfl⟩
abbrev main_while0b_v62 : Ref sig .tc := ⟨.hbm, 136, rfl⟩
abbrev main_while0b_values_23 : Ref sig .tc := ⟨.hbm, 137, rfl⟩
abbrev main_while0b_indices_24 : Ref sig .tc := ⟨.hbm, 138, rfl⟩
abbrev main_while0b_v63 : Ref sig .tc := ⟨.hbm, 139, rfl⟩
abbrev main_while0b_v64 : Ref sig .tc := ⟨.hbm, 140, rfl⟩
abbrev main_while0b_v65 : Ref sig .tc := ⟨.hbm, 141, rfl⟩
abbrev main_while0b_values_25 : Ref sig .tc := ⟨.hbm, 142, rfl⟩
abbrev main_while0b_indices_26 : Ref sig .tc := ⟨.hbm, 143, rfl⟩
abbrev main_while0b_call6_c : Ref sig .tc := ⟨.hbm, 144, rfl⟩
abbrev main_while0b_call6_v0 : Ref sig .tc := ⟨.hbm, 145, rfl⟩
abbrev main_while0b_call6_v1 : Ref sig .tc := ⟨.hbm, 146, rfl⟩
abbrev main_while0b_call6_c_0 : Ref sig .tc := ⟨.hbm, 147, rfl⟩
abbrev main_while0b_call6_v2 : Ref sig .tc := ⟨.hbm, 148, rfl⟩
abbrev main_while0b_call6_v3 : Ref sig .tc := ⟨.hbm, 149, rfl⟩
abbrev main_while0b_call6_v4 : Ref sig .tc := ⟨.hbm, 150, rfl⟩
abbrev main_while0b_call6_v5 : Ref sig .tc := ⟨.hbm, 151, rfl⟩
abbrev main_while0b_call6_c_1 : Ref sig .tc := ⟨.hbm, 152, rfl⟩
abbrev main_while0b_call6_c_2 : Ref sig .tc := ⟨.hbm, 153, rfl⟩
abbrev main_while0b_call6_v6 : Ref sig .tc := ⟨.hbm, 154, rfl⟩
abbrev main_while0b_call6_v7 : Ref sig .tc := ⟨.hbm, 155, rfl⟩
abbrev main_while0b_call6_v8 : Ref sig .tc := ⟨.hbm, 156, rfl⟩
abbrev main_while0b_call6_v9 : Ref sig .tc := ⟨.hbm, 157, rfl⟩
abbrev main_while0b_call6_v10 : Ref sig .tc := ⟨.hbm, 158, rfl⟩
abbrev main_while0b_call6_v11 : Ref sig .tc := ⟨.hbm, 159, rfl⟩
abbrev main_while0b_call6_c_3 : Ref sig .tc := ⟨.hbm, 160, rfl⟩
abbrev main_while0b_call6_v12 : Ref sig .tc := ⟨.hbm, 161, rfl⟩
abbrev main_while0b_call6_v13 : Ref sig .tc := ⟨.hbm, 162, rfl⟩
abbrev main_while0b_call6_c_4 : Ref sig .tc := ⟨.hbm, 163, rfl⟩
abbrev main_while0b_call6_v14 : Ref sig .tc := ⟨.hbm, 164, rfl⟩
abbrev main_while0b_v66 : Ref sig .tc := ⟨.hbm, 165, rfl⟩
abbrev main_while0b_v67 : Ref sig .tc := ⟨.hbm, 166, rfl⟩
abbrev main_while0b_v68 : Ref sig .tc := ⟨.hbm, 167, rfl⟩
abbrev main_while0b_cst_27 : Ref sig .tc := ⟨.hbm, 168, rfl⟩
abbrev main_while0b_call7_v0 : Ref sig .tc := ⟨.hbm, 169, rfl⟩
abbrev main_while0b_call7_v1 : Ref sig .tc := ⟨.hbm, 170, rfl⟩
abbrev main_while0b_v69 : Ref sig .tc := ⟨.hbm, 171, rfl⟩
abbrev main_while0b_values_28 : Ref sig .tc := ⟨.hbm, 172, rfl⟩
abbrev main_while0b_indices_29 : Ref sig .tc := ⟨.hbm, 173, rfl⟩
abbrev main_while0b_v70 : Ref sig .tc := ⟨.hbm, 174, rfl⟩
abbrev main_while0b_v71 : Ref sig .tc := ⟨.hbm, 175, rfl⟩
abbrev main_while0b_v72 : Ref sig .tc := ⟨.hbm, 176, rfl⟩
abbrev main_while0b_values_30 : Ref sig .tc := ⟨.hbm, 177, rfl⟩
abbrev main_while0b_indices_31 : Ref sig .tc := ⟨.hbm, 178, rfl⟩
abbrev main_while0b_call8_c : Ref sig .tc := ⟨.hbm, 179, rfl⟩
abbrev main_while0b_call8_v0 : Ref sig .tc := ⟨.hbm, 180, rfl⟩
abbrev main_while0b_call8_v1 : Ref sig .tc := ⟨.hbm, 181, rfl⟩
abbrev main_while0b_call8_c_0 : Ref sig .tc := ⟨.hbm, 182, rfl⟩
abbrev main_while0b_call8_v2 : Ref sig .tc := ⟨.hbm, 183, rfl⟩
abbrev main_while0b_call8_v3 : Ref sig .tc := ⟨.hbm, 184, rfl⟩
abbrev main_while0b_call8_v4 : Ref sig .tc := ⟨.hbm, 185, rfl⟩
abbrev main_while0b_call8_v5 : Ref sig .tc := ⟨.hbm, 186, rfl⟩
abbrev main_while0b_call8_c_1 : Ref sig .tc := ⟨.hbm, 187, rfl⟩
abbrev main_while0b_call8_c_2 : Ref sig .tc := ⟨.hbm, 188, rfl⟩
abbrev main_while0b_call8_v6 : Ref sig .tc := ⟨.hbm, 189, rfl⟩
abbrev main_while0b_call8_v7 : Ref sig .tc := ⟨.hbm, 190, rfl⟩
abbrev main_while0b_call8_v8 : Ref sig .tc := ⟨.hbm, 191, rfl⟩
abbrev main_while0b_call8_v9 : Ref sig .tc := ⟨.hbm, 192, rfl⟩
abbrev main_while0b_call8_v10 : Ref sig .tc := ⟨.hbm, 193, rfl⟩
abbrev main_while0b_call8_v11 : Ref sig .tc := ⟨.hbm, 194, rfl⟩
abbrev main_while0b_call8_c_3 : Ref sig .tc := ⟨.hbm, 195, rfl⟩
abbrev main_while0b_call8_v12 : Ref sig .tc := ⟨.hbm, 196, rfl⟩
abbrev main_while0b_call8_v13 : Ref sig .tc := ⟨.hbm, 197, rfl⟩
abbrev main_while0b_call8_c_4 : Ref sig .tc := ⟨.hbm, 198, rfl⟩
abbrev main_while0b_call8_v14 : Ref sig .tc := ⟨.hbm, 199, rfl⟩
abbrev main_while0b_v73 : Ref sig .tc := ⟨.hbm, 200, rfl⟩
abbrev main_while0b_v74 : Ref sig .tc := ⟨.hbm, 201, rfl⟩
abbrev main_while0b_v75 : Ref sig .tc := ⟨.hbm, 202, rfl⟩
abbrev main_while0b_cst_32 : Ref sig .tc := ⟨.hbm, 203, rfl⟩
abbrev main_while0b_call9_v0 : Ref sig .tc := ⟨.hbm, 204, rfl⟩
abbrev main_while0b_call9_v1 : Ref sig .tc := ⟨.hbm, 205, rfl⟩
abbrev main_while0b_v76 : Ref sig .tc := ⟨.hbm, 206, rfl⟩
abbrev main_while0b_values_33 : Ref sig .tc := ⟨.hbm, 207, rfl⟩
abbrev main_while0b_indices_34 : Ref sig .tc := ⟨.hbm, 208, rfl⟩
abbrev main_while0b_v77 : Ref sig .tc := ⟨.hbm, 209, rfl⟩
abbrev main_while0b_v78 : Ref sig .tc := ⟨.hbm, 210, rfl⟩
abbrev main_while0b_v79 : Ref sig .tc := ⟨.hbm, 211, rfl⟩
abbrev main_while0b_values_35 : Ref sig .tc := ⟨.hbm, 212, rfl⟩
abbrev main_while0b_indices_36 : Ref sig .tc := ⟨.hbm, 213, rfl⟩
abbrev main_while0b_call10_c : Ref sig .tc := ⟨.hbm, 214, rfl⟩
abbrev main_while0b_call10_v0 : Ref sig .tc := ⟨.hbm, 215, rfl⟩
abbrev main_while0b_call10_v1 : Ref sig .tc := ⟨.hbm, 216, rfl⟩
abbrev main_while0b_call10_c_0 : Ref sig .tc := ⟨.hbm, 217, rfl⟩
abbrev main_while0b_call10_v2 : Ref sig .tc := ⟨.hbm, 218, rfl⟩
abbrev main_while0b_call10_v3 : Ref sig .tc := ⟨.hbm, 219, rfl⟩
abbrev main_while0b_call10_v4 : Ref sig .tc := ⟨.hbm, 220, rfl⟩
abbrev main_while0b_call10_v5 : Ref sig .tc := ⟨.hbm, 221, rfl⟩
abbrev main_while0b_call10_c_1 : Ref sig .tc := ⟨.hbm, 222, rfl⟩
abbrev main_while0b_call10_c_2 : Ref sig .tc := ⟨.hbm, 223, rfl⟩
abbrev main_while0b_call10_v6 : Ref sig .tc := ⟨.hbm, 224, rfl⟩
abbrev main_while0b_call10_v7 : Ref sig .tc := ⟨.hbm, 225, rfl⟩
abbrev main_while0b_call10_v8 : Ref sig .tc := ⟨.hbm, 226, rfl⟩
abbrev main_while0b_call10_v9 : Ref sig .tc := ⟨.hbm, 227, rfl⟩
abbrev main_while0b_call10_v10 : Ref sig .tc := ⟨.hbm, 228, rfl⟩
abbrev main_while0b_call10_v11 : Ref sig .tc := ⟨.hbm, 229, rfl⟩
abbrev main_while0b_call10_c_3 : Ref sig .tc := ⟨.hbm, 230, rfl⟩
abbrev main_while0b_call10_v12 : Ref sig .tc := ⟨.hbm, 231, rfl⟩
abbrev main_while0b_call10_v13 : Ref sig .tc := ⟨.hbm, 232, rfl⟩
abbrev main_while0b_call10_c_4 : Ref sig .tc := ⟨.hbm, 233, rfl⟩
abbrev main_while0b_call10_v14 : Ref sig .tc := ⟨.hbm, 234, rfl⟩
abbrev main_while0b_v80 : Ref sig .tc := ⟨.hbm, 235, rfl⟩
abbrev main_while0b_v81 : Ref sig .tc := ⟨.hbm, 236, rfl⟩
abbrev main_while0b_v82 : Ref sig .tc := ⟨.hbm, 237, rfl⟩
abbrev main_while0b_cst_37 : Ref sig .tc := ⟨.hbm, 238, rfl⟩
abbrev main_while0b_call11_v0 : Ref sig .tc := ⟨.hbm, 239, rfl⟩
abbrev main_while0b_call11_v1 : Ref sig .tc := ⟨.hbm, 240, rfl⟩
abbrev main_while0b_v83 : Ref sig .tc := ⟨.hbm, 241, rfl⟩
abbrev main_while0b_values_38 : Ref sig .tc := ⟨.hbm, 242, rfl⟩
abbrev main_while0b_indices_39 : Ref sig .tc := ⟨.hbm, 243, rfl⟩
abbrev main_while0b_v84 : Ref sig .tc := ⟨.hbm, 244, rfl⟩
abbrev main_while0b_v85 : Ref sig .tc := ⟨.hbm, 245, rfl⟩
abbrev main_while0b_v86 : Ref sig .tc := ⟨.hbm, 246, rfl⟩
abbrev main_while0b_values_40 : Ref sig .tc := ⟨.hbm, 247, rfl⟩
abbrev main_while0b_indices_41 : Ref sig .tc := ⟨.hbm, 248, rfl⟩
abbrev main_while0b_call12_c : Ref sig .tc := ⟨.hbm, 249, rfl⟩
abbrev main_while0b_call12_v0 : Ref sig .tc := ⟨.hbm, 250, rfl⟩
abbrev main_while0b_call12_v1 : Ref sig .tc := ⟨.hbm, 251, rfl⟩
abbrev main_while0b_call12_c_0 : Ref sig .tc := ⟨.hbm, 252, rfl⟩
abbrev main_while0b_call12_v2 : Ref sig .tc := ⟨.hbm, 253, rfl⟩
abbrev main_while0b_call12_v3 : Ref sig .tc := ⟨.hbm, 254, rfl⟩
abbrev main_while0b_call12_v4 : Ref sig .tc := ⟨.hbm, 255, rfl⟩
abbrev main_while0b_call12_v5 : Ref sig .tc := ⟨.hbm, 256, rfl⟩
abbrev main_while0b_call12_c_1 : Ref sig .tc := ⟨.hbm, 257, rfl⟩
abbrev main_while0b_call12_c_2 : Ref sig .tc := ⟨.hbm, 258, rfl⟩
abbrev main_while0b_call12_v6 : Ref sig .tc := ⟨.hbm, 259, rfl⟩
abbrev main_while0b_call12_v7 : Ref sig .tc := ⟨.hbm, 260, rfl⟩
abbrev main_while0b_call12_v8 : Ref sig .tc := ⟨.hbm, 261, rfl⟩
abbrev main_while0b_call12_v9 : Ref sig .tc := ⟨.hbm, 262, rfl⟩
abbrev main_while0b_call12_v10 : Ref sig .tc := ⟨.hbm, 263, rfl⟩
abbrev main_while0b_call12_v11 : Ref sig .tc := ⟨.hbm, 264, rfl⟩
abbrev main_while0b_call12_c_3 : Ref sig .tc := ⟨.hbm, 265, rfl⟩
abbrev main_while0b_call12_v12 : Ref sig .tc := ⟨.hbm, 266, rfl⟩
abbrev main_while0b_call12_v13 : Ref sig .tc := ⟨.hbm, 267, rfl⟩
abbrev main_while0b_call12_c_4 : Ref sig .tc := ⟨.hbm, 268, rfl⟩
abbrev main_while0b_call12_v14 : Ref sig .tc := ⟨.hbm, 269, rfl⟩
abbrev main_while0b_v87 : Ref sig .tc := ⟨.hbm, 270, rfl⟩
abbrev main_while0b_v88 : Ref sig .tc := ⟨.hbm, 271, rfl⟩
abbrev main_while0b_v89 : Ref sig .tc := ⟨.hbm, 272, rfl⟩
abbrev main_while0b_v90 : Ref sig .tc := ⟨.hbm, 273, rfl⟩
abbrev main_while0b_v91 : Ref sig .tc := ⟨.hbm, 274, rfl⟩
abbrev main_while0b_v92 : Ref sig .tc := ⟨.hbm, 275, rfl⟩
abbrev main_while0b_v93 : Ref sig .tc := ⟨.hbm, 276, rfl⟩
abbrev main_while0b_v94 : Ref sig .tc := ⟨.hbm, 277, rfl⟩
abbrev main_while0b_v95 : Ref sig .tc := ⟨.hbm, 278, rfl⟩
abbrev main_while0b_v96 : Ref sig .tc := ⟨.hbm, 279, rfl⟩
abbrev main_while0b_v97 : Ref sig .tc := ⟨.hbm, 280, rfl⟩
abbrev main_while0b_v98 : Ref sig .tc := ⟨.hbm, 281, rfl⟩
abbrev main_while0b_v99 : Ref sig .tc := ⟨.hbm, 282, rfl⟩
abbrev main_while0b_v100 : Ref sig .tc := ⟨.hbm, 283, rfl⟩
abbrev main_while0b_v101 : Ref sig .tc := ⟨.hbm, 284, rfl⟩
abbrev main_while0b_v102 : Ref sig .tc := ⟨.hbm, 285, rfl⟩
abbrev main_while0b_v103 : Ref sig .tc := ⟨.hbm, 286, rfl⟩
abbrev main_while0b_c_42 : Ref sig .tc := ⟨.hbm, 287, rfl⟩
abbrev main_while0b_call13_v0 : Ref sig .tc := ⟨.hbm, 288, rfl⟩
abbrev main_while0b_call13_v1 : Ref sig .tc := ⟨.hbm, 289, rfl⟩
abbrev main_while0b_call13_v2 : Ref sig .tc := ⟨.hbm, 290, rfl⟩
abbrev main_while0b_call13_v3 : Ref sig .tc := ⟨.hbm, 291, rfl⟩
abbrev main_while0b_call13_v4 : Ref sig .tc := ⟨.hbm, 292, rfl⟩
abbrev main_while0b_call13_v5 : Ref sig .tc := ⟨.hbm, 293, rfl⟩
abbrev main_while0b_call13_v6 : Ref sig .tc := ⟨.hbm, 294, rfl⟩
abbrev main_while0b_call13_v7 : Ref sig .tc := ⟨.hbm, 295, rfl⟩
abbrev main_while0b_call13_v8 : Ref sig .tc := ⟨.hbm, 296, rfl⟩
abbrev main_while0b_call13_c : Ref sig .tc := ⟨.hbm, 297, rfl⟩
abbrev main_while0b_call13_v9 : Ref sig .tc := ⟨.hbm, 298, rfl⟩
abbrev main_while0b_call13_v10 : Ref sig .tc := ⟨.hbm, 299, rfl⟩
abbrev main_while0b_call13_v11 : Ref sig .tc := ⟨.hbm, 300, rfl⟩
abbrev main_while0b_call13_c_0 : Ref sig .tc := ⟨.hbm, 301, rfl⟩
abbrev main_while0b_call13_v12 : Ref sig .tc := ⟨.hbm, 302, rfl⟩
abbrev main_while0b_call13_v13 : Ref sig .tc := ⟨.hbm, 303, rfl⟩
abbrev main_while0b_v104 : Ref sig .tc := ⟨.hbm, 304, rfl⟩
abbrev main_while0b_v105 : Ref sig .tc := ⟨.hbm, 305, rfl⟩
abbrev main_while0b_v106 : Ref sig .tc := ⟨.hbm, 306, rfl⟩
abbrev main_while0b_v107 : Ref sig .tc := ⟨.hbm, 307, rfl⟩
abbrev main_while0b_call14_c : Ref sig .tc := ⟨.hbm, 308, rfl⟩
abbrev main_while0b_call14_v0 : Ref sig .tc := ⟨.hbm, 309, rfl⟩
abbrev main_while0b_call14_v1 : Ref sig .tc := ⟨.hbm, 310, rfl⟩
abbrev main_while0b_call14_c_0 : Ref sig .tc := ⟨.hbm, 311, rfl⟩
abbrev main_while0b_call14_v2 : Ref sig .tc := ⟨.hbm, 312, rfl⟩
abbrev main_while0b_call14_v3 : Ref sig .tc := ⟨.hbm, 313, rfl⟩
abbrev main_while0b_call14_v4 : Ref sig .tc := ⟨.hbm, 314, rfl⟩
abbrev main_while0b_call14_c_1 : Ref sig .tc := ⟨.hbm, 315, rfl⟩
abbrev main_while0b_call14_c_2 : Ref sig .tc := ⟨.hbm, 316, rfl⟩
abbrev main_while0b_call14_v5 : Ref sig .tc := ⟨.hbm, 317, rfl⟩
abbrev main_while0b_call14_v6 : Ref sig .tc := ⟨.hbm, 318, rfl⟩
abbrev main_while0b_call14_v7 : Ref sig .tc := ⟨.hbm, 319, rfl⟩
abbrev main_while0b_call14_v8 : Ref sig .tc := ⟨.hbm, 320, rfl⟩
abbrev main_while0b_call14_v9 : Ref sig .tc := ⟨.hbm, 321, rfl⟩
abbrev main_while0b_call14_v10 : Ref sig .tc := ⟨.hbm, 322, rfl⟩
abbrev main_while0b_call14_c_3 : Ref sig .tc := ⟨.hbm, 323, rfl⟩
abbrev main_while0b_call14_v11 : Ref sig .tc := ⟨.hbm, 324, rfl⟩
abbrev main_while0b_call14_v12 : Ref sig .tc := ⟨.hbm, 325, rfl⟩
abbrev main_while0b_call14_v13 : Ref sig .tc := ⟨.hbm, 326, rfl⟩
abbrev main_while0b_call14_cst : Ref sig .tc := ⟨.hbm, 327, rfl⟩
abbrev main_while0b_call14_v14 : Ref sig .tc := ⟨.hbm, 328, rfl⟩
abbrev main_while0b_v108 : Ref sig .tc := ⟨.hbm, 329, rfl⟩
abbrev main_while0b_v109 : Ref sig .tc := ⟨.hbm, 330, rfl⟩
abbrev main_while0b_v110 : Ref sig .tc := ⟨.hbm, 331, rfl⟩
abbrev main_while0b_call15_c : Ref sig .tc := ⟨.hbm, 332, rfl⟩
abbrev main_while0b_call15_v0 : Ref sig .tc := ⟨.hbm, 333, rfl⟩
abbrev main_while0b_call15_v1 : Ref sig .tc := ⟨.hbm, 334, rfl⟩
abbrev main_while0b_call15_c_0 : Ref sig .tc := ⟨.hbm, 335, rfl⟩
abbrev main_while0b_call15_v2 : Ref sig .tc := ⟨.hbm, 336, rfl⟩
abbrev main_while0b_call15_v3 : Ref sig .tc := ⟨.hbm, 337, rfl⟩
abbrev main_while0b_call15_v4 : Ref sig .tc := ⟨.hbm, 338, rfl⟩
abbrev main_while0b_call15_c_1 : Ref sig .tc := ⟨.hbm, 339, rfl⟩
abbrev main_while0b_call15_c_2 : Ref sig .tc := ⟨.hbm, 340, rfl⟩
abbrev main_while0b_call15_v5 : Ref sig .tc := ⟨.hbm, 341, rfl⟩
abbrev main_while0b_call15_v6 : Ref sig .tc := ⟨.hbm, 342, rfl⟩
abbrev main_while0b_call15_v7 : Ref sig .tc := ⟨.hbm, 343, rfl⟩
abbrev main_while0b_call15_v8 : Ref sig .tc := ⟨.hbm, 344, rfl⟩
abbrev main_while0b_call15_v9 : Ref sig .tc := ⟨.hbm, 345, rfl⟩
abbrev main_while0b_call15_v10 : Ref sig .tc := ⟨.hbm, 346, rfl⟩
abbrev main_while0b_call15_c_3 : Ref sig .tc := ⟨.hbm, 347, rfl⟩
abbrev main_while0b_call15_v11 : Ref sig .tc := ⟨.hbm, 348, rfl⟩
abbrev main_while0b_call15_v12 : Ref sig .tc := ⟨.hbm, 349, rfl⟩
abbrev main_while0b_call15_v13 : Ref sig .tc := ⟨.hbm, 350, rfl⟩
abbrev main_while0b_call15_c_4 : Ref sig .tc := ⟨.hbm, 351, rfl⟩
abbrev main_while0b_call15_v14 : Ref sig .tc := ⟨.hbm, 352, rfl⟩
abbrev main_while0b_v111 : Ref sig .tc := ⟨.hbm, 353, rfl⟩
abbrev main_while0b_v112 : Ref sig .tc := ⟨.hbm, 354, rfl⟩
abbrev main_while0b_c_43 : Ref sig .tc := ⟨.hbm, 355, rfl⟩
abbrev main_while0b_v113 : Ref sig .tc := ⟨.hbm, 356, rfl⟩
abbrev main_while0b_v114 : Ref sig .tc := ⟨.hbm, 357, rfl⟩
abbrev main_while0b_v115 : Ref sig .tc := ⟨.hbm, 358, rfl⟩
abbrev main_while0b_v116 : Ref sig .tc := ⟨.hbm, 359, rfl⟩
abbrev main_while0b_v117 : Ref sig .tc := ⟨.hbm, 360, rfl⟩
abbrev main_while0b_call16_v0 : Ref sig .tc := ⟨.hbm, 361, rfl⟩
abbrev main_while0b_call16_v1 : Ref sig .tc := ⟨.hbm, 362, rfl⟩
abbrev main_while0b_v118 : Ref sig .tc := ⟨.hbm, 363, rfl⟩
abbrev main_while0b_c_44 : Ref sig .tc := ⟨.hbm, 364, rfl⟩
abbrev main_while0b_v119 : Ref sig .tc := ⟨.hbm, 365, rfl⟩
abbrev main_v36 : Ref sig .tc := ⟨.hbm, 366, rfl⟩

abbrev nD : Nat := 1
abbrev τ : Topo := Topo.v7x

variable {F : FTy → Type} [FloatOps F]

abbrev main_while0_count : Scf.Loop 32 := ⟨0#32, 11#32, 1#32⟩
-- ==== Proof.Model.lean ====
module

public import proofs.«01_k».proof.Proof.Gen.KernelIdeal.Frame

/-! The kernel's computation written compactly: one row search, one selection round, one
    gather, each a definition of its own, over the very operations the kernel uses. -/

@[expose] public section

set_option synthInstance.maxSize 4096

noncomputable section

namespace Cert.Beam

open Idealize.ShloMosaic Idealize.SL.Sem Cert.KernelIdeal Cert.KernelIdeal.Gen

variable {F : FTy → Type} [FloatOps F] [Named F]

/-- The lane number along the vocabulary, per beam row. -/
abbrev lane3 : IVec S16x24x1024 32 := iota .tc S16x24x1024 32 [2] iota_S16x24x1024_d2_w32
/-- The lane number along the vocabulary, per batch row. -/
abbrev lane2 : IVec S16x1024 32 := iota .tc S16x1024 32 [1] iota_S16x1024_d1_w32
/-- The beam number. -/
abbrev beam2 : IVec S16x24 32 := iota .tc S16x24 32 [1] iota_S16x24_d1_w32
/-- The candidate number within a beam. -/
abbrev cand3 : IVec S16x24x5 32 := iota .tc S16x24x5 32 [2] iota_S16x24x5_d2_w32
/-- The beam number, per candidate. -/
abbrev beam3 : IVec S16x24x5 32 := iota .tc S16x24x5 32 [1] iota_S16x24x5_d1_w32
/-- The step number. -/
abbrev step3 : IVec S12x16x24 32 := iota .tc S12x16x24 32 [0] iota_S12x16x24_d0_w32

/-- The largest entry of each beam row. -/
def max3 (x : FVec F S16x24x1024 .f32) : FVec F S16x24x1 .f32 :=
  shapeCast S16x24x1 (multiReduction .maximumf [2] S16x24 x 0xFF800000#32 reduces_S16x24x1024_S16x24 (.inl rfl) rfl) shapeCasts_S16x24_S16x24x1
/-- The first lane at which a beam row takes its largest entry. -/
def arg3 (x : FVec F S16x24x1024 .f32) : IVec S16x24x1 32 :=
  shapeCast S16x24x1 (multiReductionI .minsi [2] S16x24 (select (cmpf .oeq x (broadcastTo S16x24x1024 (max3 x) broadcasts_S16x24x1_S16x24x1024)) lane3 (broadcast S16x24x1024 1024#32)) 2147483647#32 reduces_S16x24x1024_S16x24 rfl) shapeCasts_S16x24_S16x24x1
/-- The rows with that lane struck out. -/
def drop3 (x : FVec F S16x24x1024 .f32) : FVec F S16x24x1024 .f32 :=
  select (cmpi .eq lane3 (broadcastTo S16x24x1024 (arg3 x) broadcasts_S16x24x1_S16x24x1024)) (broadcast S16x24x1024 (Scalar.ofBits .f32 0xFF800000#32)) x
/-- The rows after `r` searches. -/
def rows3 (x : FVec F S16x24x1024 .f32) : ℕ → FVec F S16x24x1024 .f32
  | 0 => x
  | r + 1 => drop3 (rows3 x r)

/-- The largest entry of each batch row. -/
def max2 (x : FVec F S16x1024 .f32) : FVec F S16x1 .f32 :=
  shapeCast S16x1 (multiReduction .maximumf [1] S16 x 0xFF800000#32 reduces_S16x1024_S16 (.inl rfl) rfl) shapeCasts_S16_S16x1
/-- The first lane at which a batch row takes its largest entry. -/
def arg2 (x : FVec F S16x1024 .f32) : IVec S16x1 32 :=
  shapeCast S16x1 (multiReductionI .minsi [1] S16 (select (cmpf .oeq x (broadcastTo S16x1024 (max2 x) broadcasts_S16x1_S16x1024)) lane2 (broadcast S16x1024 1024#32)) 2147483647#32 reduces_S16x1024_S16 rfl) shapeCasts_S16_S16x1
/-- The rows with that lane struck out. -/
def drop2 (x : FVec F S16x1024 .f32) : FVec F S16x1024 .f32 :=
  select (cmpi .eq lane2 (broadcastTo S16x1024 (arg2 x) broadcasts_S16x1_S16x1024)) (broadcast S16x1024 (Scalar.ofBits .f32 0xFF800000#32)) x
/-- The rows after `r` searches. -/
def rows2 (x : FVec F S16x1024 .f32) : ℕ → FVec F S16x1024 .f32
  | 0 => x
  | r + 1 => drop2 (rows2 x r)

/-- Twenty columns, state by state, and four more of padding. -/
def catI (f : ℕ → ℕ → IVec S16x1 32) : IVec S16x24 32 :=
  concatenate S16x24 1 [⟨S16x1, f 0 0⟩, ⟨S16x1, f 0 1⟩, ⟨S16x1, f 0 2⟩, ⟨S16x1, f 0 3⟩, ⟨S16x1, f 0 4⟩, ⟨S16x1, f 1 0⟩, ⟨S16x1, f 1 1⟩, ⟨S16x1, f 1 2⟩, ⟨S16x1, f 1 3⟩, ⟨S16x1, f 1 4⟩, ⟨S16x1, f 2 0⟩, ⟨S16x1, f 2 1⟩, ⟨S16x1, f 2 2⟩, ⟨S16x1, f 2 3⟩, ⟨S16x1, f 2 4⟩, ⟨S16x1, f 3 0⟩, ⟨S16x1, f 3 1⟩, ⟨S16x1, f 3 2⟩, ⟨S16x1, f 3 3⟩, ⟨S16x1, f 3 4⟩, ⟨S16x4, broadcast S16x4 0#32⟩] concatenates_S16x1_S16x1_S16x1_S16x1_S16x1_S16x1_S16x1_S16x1_S16x1_S16x1_S16x1_S16x1_S16x1_S16x1_S16x1_S16x1_S16x1_S16x1_S16x1_S16x1_S16x4_S16x24_d1
/-- Twenty columns of scores, state by state, and four more of padding. -/
def catF (f : ℕ → ℕ → FVec F S16x1 .f32) : FVec F S16x24 .f32 :=
  concatenate S16x24 1 [⟨S16x1, f 0 0⟩, ⟨S16x1, f 0 1⟩, ⟨S16x1, f 0 2⟩, ⟨S16x1, f 0 3⟩, ⟨S16x1, f 0 4⟩, ⟨S16x1, f 1 0⟩, ⟨S16x1, f 1 1⟩, ⟨S16x1, f 1 2⟩, ⟨S16x1, f 1 3⟩, ⟨S16x1, f 1 4⟩, ⟨S16x1, f 2 0⟩, ⟨S16x1, f 2 1⟩, ⟨S16x1, f 2 2⟩, ⟨S16x1, f 2 3⟩, ⟨S16x1, f 2 4⟩, ⟨S16x1, f 3 0⟩, ⟨S16x1, f 3 1⟩, ⟨S16x1, f 3 2⟩, ⟨S16x1, f 3 3⟩, ⟨S16x1, f 3 4⟩, ⟨S16x4, broadcast S16x4 (Scalar.ofBits .f32 0xFF800000#32)⟩] concatenates_S16x1_S16x1_S16x1_S16x1_S16x1_S16x1_S16x1_S16x1_S16x1_S16x1_S16x1_S16x1_S16x1_S16x1_S16x1_S16x1_S16x1_S16x1_S16x1_S16x1_S16x4_S16x24_d1

/-- The candidates' scores of one state: each beam's five best, with the beam's own score. -/
def candLp (x : FVec F S16x24x1024 .f32) (lp : FVec F S16x24 .f32) : FVec F S16x24x5 .f32 :=
  addf (concatenate S16x24x5 2 [⟨S16x24x1, max3 (rows3 x 0)⟩, ⟨S16x24x1, max3 (rows3 x 1)⟩, ⟨S16x24x1, max3 (rows3 x 2)⟩, ⟨S16x24x1, max3 (rows3 x 3)⟩, ⟨S16x24x1, max3 (rows3 x 4)⟩] concatenates_S16x24x1_S16x24x1_S16x24x1_S16x24x1_S16x24x1_S16x24x5_d2)
    (broadcastTo S16x24x5 (shapeCast S16x24x1 lp shapeCasts_S16x24_S16x24x1) broadcasts_S16x24x1_S16x24x5)
/-- The candidates' tokens of one state. -/
def candTok (x : FVec F S16x24x1024 .f32) : IVec S16x24x5 32 :=
  concatenate S16x24x5 2 [⟨S16x24x1, arg3 (rows3 x 0)⟩, ⟨S16x24x1, arg3 (rows3 x 1)⟩, ⟨S16x24x1, arg3 (rows3 x 2)⟩, ⟨S16x24x1, arg3 (rows3 x 3)⟩, ⟨S16x24x1, arg3 (rows3 x 4)⟩] concatenates_S16x24x1_S16x24x1_S16x24x1_S16x24x1_S16x24x1_S16x24x5_d2

/-- Each beam's best candidate score. -/
def bestK (x : FVec F S16x24x5 .f32) : FVec F S16x24 .f32 :=
  multiReduction .maximumf [2] S16x24 x 0xFF800000#32 reduces_S16x24x5_S16x24 (.inl rfl) rfl
/-- The first candidate of each beam that takes it. -/
def argK (x : FVec F S16x24x5 .f32) : IVec S16x24 32 :=
  multiReductionI .minsi [2] S16x24 (select (cmpf .oeq x (broadcastTo S16x24x5 (shapeCast S16x24x1 (bestK x) shapeCasts_S16x24_S16x24x1) broadcasts_S16x24x1_S16x24x5)) cand3 (broadcast S16x24x5 5#32)) 2147483647#32 reduces_S16x24x5_S16x24 rfl
/-- The best score of all. -/
def bestJ (x : FVec F S16x24x5 .f32) : FVec F S16x1 .f32 :=
  shapeCast S16x1 (multiReduction .maximumf [1] S16 (bestK x) 0xFF800000#32 reduces_S16x24_S16 (.inl rfl) rfl) shapeCasts_S16_S16x1
/-- The first beam that takes it. -/
def argJ (x : FVec F S16x24x5 .f32) : IVec S16x1 32 :=
  shapeCast S16x1 (multiReductionI .minsi [1] S16 (select (cmpf .oeq (bestK x) (broadcastTo S16x24 (bestJ x) broadcasts_S16x1_S16x24)) beam2 (broadcast S16x24 24#32)) 2147483647#32 reduces_S16x24_S16 rfl) shapeCasts_S16_S16x1
/-- Which beam that is, as a mask. -/
def isJ (x : FVec F S16x24x5 .f32) : IVec S16x24 1 :=
  cmpi .eq beam2 (broadcastTo S16x24 (argJ x) broadcasts_S16x1_S16x24)
/-- The chosen candidate's number within its beam. -/
def chosenK (x : FVec F S16x24x5 .f32) : IVec S16x1 32 :=
  shapeCast S16x1 (multiReductionI .add [1] S16 (select (isJ x) (argK x) (broadcast S16x24 0#32)) 0#32 reduces_S16x24_S16 rfl) shapeCasts_S16_S16x1
/-- The chosen candidate's token. -/
def chosenTok (tk : IVec S16x24x5 32) (x : FVec F S16x24x5 .f32) : IVec S16x1 32 :=
  shapeCast S16x1 (multiReductionI .add [1] S16 (select (isJ x)
    (multiReductionI .add [2] S16x24 (select (cmpi .eq cand3 (broadcastTo S16x24x5 (shapeCast S16x24x1 (argK x) shapeCasts_S16x24_S16x24x1) broadcasts_S16x24x1_S16x24x5)) tk (broadcast S16x24x5 0#32)) 0#32 reduces_S16x24x5_S16x24 rfl)
    (broadcast S16x24 0#32)) 0#32 reduces_S16x24_S16 rfl) shapeCasts_S16_S16x1
/-- The candidates with the chosen one struck out. -/
def strike (x : FVec F S16x24x5 .f32) : FVec F S16x24x5 .f32 :=
  select (andi (cmpi .eq beam3 (broadcastTo S16x24x5 (shapeCast S16x1x1 (argJ x) shapeCasts_S16x1_S16x1x1) broadcasts_S16x1x1_S16x24x5))
    (cmpi .eq cand3 (broadcastTo S16x24x5 (shapeCast S16x1x1 (chosenK x) shapeCasts_S16x1_S16x1x1) broadcasts_S16x1x1_S16x24x5)))
    (broadcast S16x24x5 (Scalar.ofBits .f32 0xFF800000#32)) x
/-- The candidates after `r` selections. -/
def left (x : FVec F S16x24x5 .f32) : ℕ → FVec F S16x24x5 .f32
  | 0 => x
  | r + 1 => strike (left x r)

/-- The new hidden rows. -/
def hidden (we wh : FVec F S1024x1024 .f32) (fw : FVec F S384x1024 .f32) (pr : IVec S16x24 32) (h : FVec F S16x24x1024 .f32) : FVec F S384x1024 .f32 :=
  tanh (addf (addf (matmul dot_S384x1024_S1024x1024_S384x1024_1_0_0_1_n_n none (shapeCast S384x1024 h shapeCasts_S16x24x1024_S384x1024) wh (constant S384x1024 .f32 0x00000000#32))
    (matmul dot_S384x1024_S1024x1024_S384x1024_1_0_0_1_n_n (some .fp32)
      (shapeCast S384x1024 (sitofp .f32 (extui 32 (cmpi .eq (broadcastTo S16x24x1024 (shapeCast S16x24x1 pr shapeCasts_S16x24_S16x24x1) broadcasts_S16x24x1_S16x24x1024) lane3) natLt_1_32)) shapeCasts_S16x24x1024_S384x1024)
      we (constant S384x1024 .f32 0x00000000#32))) fw)

/-- The rows' logits, the lanes past the vocabulary masked. -/
def logits3 (wo : FVec F S1024x1024 .f32) (hn : FVec F S384x1024 .f32) : FVec F S16x24x1024 .f32 :=
  select (cmpi .slt lane3 (broadcast S16x24x1024 1000#32))
    (shapeCast S16x24x1024 (matmul dot_S384x1024_S1024x1024_S384x1024_1_0_0_1_n_n none hn wo (constant S384x1024 .f32 0x00000000#32)) shapeCasts_S384x1024_S16x24x1024)
    (broadcast S16x24x1024 (Named.named κ "mask" 0xF149F2CA#32))
/-- The logits less their row's largest. -/
def shifted3 (z : FVec F S16x24x1024 .f32) : FVec F S16x24x1024 .f32 :=
  subf z (broadcastTo S16x24x1024 (max3 z) broadcasts_S16x24x1_S16x24x1024)
/-- Each row's log-probabilities. -/
def logSoft3 (z : FVec F S16x24x1024 .f32) : FVec F S16x24x1024 .f32 :=
  subf (shifted3 z) (broadcastTo S16x24x1024 (log (shapeCast S16x24x1 (multiReduction .add [2] S16x24 (exp (shifted3 z)) 0x00000000#32 reduces_S16x24x1024_S16x24 (.inl rfl) rfl) shapeCasts_S16x24_S16x24x1)) broadcasts_S16x24x1_S16x24x1024)
/-- The scores of the one token that may follow the end token. -/
def afterEnd : FVec F S16x24x1024 .f32 :=
  select (cmpi .eq lane3 (broadcast S16x24x1024 2#32)) (broadcast S16x24x1024 (Scalar.ofBits .f32 0x00000000#32)) (broadcast S16x24x1024 (Scalar.ofBits .f32 0xE0AD78EC#32))
/-- The log-probabilities, a finished beam's replaced. -/
def cleaned (pr : IVec S16x24 32) (lp : FVec F S16x24x1024 .f32) : FVec F S16x24x1024 .f32 :=
  select (broadcastTo S16x24x1024 (shapeCast S16x24x1 (cmpi .eq (shapeCast S16x24x1 pr shapeCasts_S16x24_S16x24x1) (broadcast S16x24x1 2#32)) shapeCasts_S16x24x1_S16x24x1) broadcasts_S16x24x1_S16x24x1024) afterEnd lp
/-- The scores allowed by one state's mask. -/
def masked3 (mk : IVec S1x16x24x1024 8) (x : FVec F S16x24x1024 .f32) : FVec F S16x24x1024 .f32 :=
  select (cmpi .ne (shapeCast S16x24x1024 mk shapeCasts_S1x16x24x1024_S16x24x1024) (broadcast S16x24x1024 0#8)) x (broadcast S16x24x1024 (Scalar.ofBits .f32 0xE0AD78EC#32))

/-- One row of a table of twenty-four. -/
theorem slicesRow (k : ℕ) (hk : k < 24) : S16x24x1024.Slices ![0, k, 0] S16x1x1024 := by
  refine ⟨rfl, fun i => ?_⟩
  fin_cases i <;> simp <;> omega

/-- The hidden rows gathered by beam number. -/
def gath (hn : FVec F S16x24x1024 .f32) (bp : IVec S16x24 32) : (k : ℕ) → k ≤ 24 → FVec F S16x24x1024 .f32
  | 0, _ => hn
  | k + 1, hk =>
      select (broadcastTo S16x24x1024 (shapeCast S16x24x1 (cmpi .eq (shapeCast S16x24x1 bp shapeCasts_S16x24_S16x24x1) (broadcast S16x24x1 (BitVec.ofNat 32 k))) shapeCasts_S16x24x1_S16x24x1) broadcasts_S16x24x1_S16x24x1024)
        (broadcastTo S16x24x1024 (shapeCast S16x1x1024 (extractStridedSlice S16x1x1024 ![0, k, 0] hn (slicesRow k hk)) shapeCasts_S16x1x1024_S16x1x1024) broadcasts_S16x1x1024_S16x24x1024)
        (gath hn bp k (Nat.le_of_succ_le hk))

/-- One table row put into the table at step `t`. -/
def putAt (t : BitVec 32) (row : IVec S16x24 32) (tab : IVec S12x16x24 32) : IVec S12x16x24 32 :=
  select (cmpi .eq step3 (broadcast S12x16x24 t)) (broadcastTo S12x16x24 (shapeCast S1x16x24 (shapeCast S1x16x24 row shapeCasts_S16x24_S1x16x24) shapeCasts_S1x16x24_S1x16x24) broadcasts_S1x16x24_S12x16x24) tab

/-- What the loop carries. -/
abbrev Carried (F : FTy → Type) := IVec S16x24 32 × FVec F S16x24 .f32 × FVec F S16x24x1024 .f32 × IVec S12x16x24 32 × IVec S12x16x24 32

/-- The allowed scores of state `s` in one step. -/
def scores (we wh wo : FVec F S1024x1024 .f32) (fw : FVec F S384x1024 .f32) (mk : ℕ → IVec S1x16x24x1024 8) (a : Carried F) (s : ℕ) : FVec F S16x24x1024 .f32 :=
  masked3 (mk s) (cleaned a.1 (logSoft3 (logits3 wo (hidden we wh fw a.1 a.2.2.1))))
/-- The candidates left in state `s` after `r` selections. -/
def pool (we wh wo : FVec F S1024x1024 .f32) (fw : FVec F S384x1024 .f32) (mk : ℕ → IVec S1x16x24x1024 8) (a : Carried F) (s r : ℕ) : FVec F S16x24x5 .f32 :=
  left (candLp (scores we wh wo fw mk a s) a.2.1) r
/-- The beam each new beam comes from. -/
def parents (we wh wo : FVec F S1024x1024 .f32) (fw : FVec F S384x1024 .f32) (mk : ℕ → IVec S1x16x24x1024 8) (a : Carried F) : IVec S16x24 32 :=
  catI fun s r => argJ (pool we wh wo fw mk a s r)
/-- Each new beam's token. -/
def tokens (we wh wo : FVec F S1024x1024 .f32) (fw : FVec F S384x1024 .f32) (mk : ℕ → IVec S1x16x24x1024 8) (a : Carried F) : IVec S16x24 32 :=
  catI fun s r => chosenTok (candTok (scores we wh wo fw mk a s)) (pool we wh wo fw mk a s r)

/-- One step of the search. -/
def trip (we wh wo : FVec F S1024x1024 .f32) (fw : FVec F S384x1024 .f32) (mk : ℕ → IVec S1x16x24x1024 8) (i : BitVec 32) (a : Carried F) : Carried F :=
  (tokens we wh wo fw mk a, catF fun s r => bestJ (pool we wh wo fw mk a s r),
    gath (shapeCast S16x24x1024 (hidden we wh fw a.1 a.2.2.1) shapeCasts_S384x1024_S16x24x1024) (parents we wh wo fw mk a) 20 (by decide),
    putAt (Scalar.addi i 1#32) (tokens we wh wo fw mk a) a.2.2.2.1,
    putAt i (parents we wh wo fw mk a) a.2.2.2.2)

/-- The steps of the search from a first state. -/
def steps (we wh wo : FVec F S1024x1024 .f32) (fw : FVec F S384x1024 .f32) (mk : ℕ → IVec S1x16x24x1024 8) (a : Carried F) : ℕ → Carried F
  | 0 => a
  | n + 1 => trip we wh wo fw mk (Scf.iv 0#32 1#32 n) (steps we wh wo fw mk a n)

/-- The feature's part of the hidden rows. -/
def featPart (feat : FVec F S16x1024 .f32) (wf : FVec F S1024x1024 .f32) : FVec F S16x1024 .f32 :=
  matmul dot_S16x1024_S1024x1024_S16x1024_1_0_0_1_n_n none feat wf (constant S16x1024 .f32 0x00000000#32)
/-- The first hidden rows. -/
def hidden0 (feat : FVec F S16x1024 .f32) (we wh wf : FVec F S1024x1024 .f32) (sp : IVec S16x1 32) (h0 : FVec F S16x1024 .f32) : FVec F S16x1024 .f32 :=
  tanh (addf (addf (matmul dot_S16x1024_S1024x1024_S16x1024_1_0_0_1_n_n none h0 wh (constant S16x1024 .f32 0x00000000#32))
    (matmul dot_S16x1024_S1024x1024_S16x1024_1_0_0_1_n_n (some .fp32)
      (sitofp .f32 (extui 32 (cmpi .eq (broadcastTo S16x1024 (shapeCast S16x1 sp shapeCasts_S16x1_S16x1) broadcasts_S16x1_S16x1024) lane2) natLt_1_32))
      we (constant S16x1024 .f32 0x00000000#32))) (featPart feat wf))
/-- The first rows' logits, the lanes past the vocabulary masked. -/
def logits2 (wo : FVec F S1024x1024 .f32) (hn : FVec F S16x1024 .f32) : FVec F S16x1024 .f32 :=
  select (cmpi .slt lane2 (broadcast S16x1024 1000#32))
    (matmul dot_S16x1024_S1024x1024_S16x1024_1_0_0_1_n_n none hn wo (constant S16x1024 .f32 0x00000000#32))
    (broadcast S16x1024 (Named.named κ "mask" 0xF149F2CA#32))
/-- The first logits less their row's largest. -/
def shifted2 (z : FVec F S16x1024 .f32) : FVec F S16x1024 .f32 :=
  subf z (broadcastTo S16x1024 (max2 z) broadcasts_S16x1_S16x1024)
/-- Each first row's log-probabilities. -/
def logSoft2 (z : FVec F S16x1024 .f32) : FVec F S16x1024 .f32 :=
  subf (shifted2 z) (broadcastTo S16x1024 (log (shapeCast S16x1 (multiReduction .add [1] S16 (exp (shifted2 z)) 0x00000000#32 reduces_S16x1024_S16 (.inl rfl) rfl) shapeCasts_S16_S16x1)) broadcasts_S16x1_S16x1024)
/-- The first scores allowed by one state's mask, the lanes past the vocabulary left out. -/
def masked2 (mk : IVec S1x16x1024 8) (x : FVec F S16x1024 .f32) : FVec F S16x1024 .f32 :=
  select (cmpi .slt lane2 (broadcast S16x1024 1000#32))
    (select (cmpi .ne (shapeCast S16x1024 mk shapeCasts_S1x16x1024_S16x1024) (broadcast S16x1024 0#8)) x (broadcast S16x1024 (Scalar.ofBits .f32 0xE0AD78EC#32)))
    (broadcast S16x1024 (Scalar.ofBits .f32 0xFF800000#32))
/-- The first scores of state `s`. -/
def scores0 (hn : FVec F S16x1024 .f32) (wo : FVec F S1024x1024 .f32) (mk : ℕ → IVec S1x16x1024 8) (s : ℕ) : FVec F S16x1024 .f32 :=
  masked2 (mk s) (logSoft2 (logits2 wo hn))
/-- A batch row's vector, for each of its beams. -/
def perBeam (x : FVec F S16x1024 .f32) : FVec F S16x24x1024 .f32 :=
  broadcastTo S16x24x1024 (shapeCast S16x1x1024 (shapeCast S16x1x1024 x shapeCasts_S16x1024_S16x1x1024) shapeCasts_S16x1x1024_S16x1x1024) broadcasts_S16x1x1024_S16x24x1024
/-- The first tokens. -/
def tokens0 (hn : FVec F S16x1024 .f32) (wo : FVec F S1024x1024 .f32) (mk : ℕ → IVec S1x16x1024 8) : IVec S16x24 32 :=
  catI fun s r => arg2 (rows2 (scores0 hn wo mk s) r)
/-- What the loop starts from. -/
def start (hn : FVec F S16x1024 .f32) (wo : FVec F S1024x1024 .f32) (mk : ℕ → IVec S1x16x1024 8) : Carried F :=
  (tokens0 hn wo mk, catF fun s r => max2 (rows2 (scores0 hn wo mk s) r), perBeam hn,
    broadcastTo S12x16x24 (shapeCast S1x16x24 (shapeCast S1x16x24 (tokens0 hn wo mk) shapeCasts_S16x24_S1x16x24) shapeCasts_S1x16x24_S1x16x24) broadcasts_S1x16x24_S12x16x24,
    broadcast S12x16x24 0#32)

/-- One row of a table of twelve. -/
theorem slicesStep (t : ℕ) (ht : t < 12) : S12x16x24.Slices ![t, 0, 0] S1x16x24 := by
  refine ⟨rfl, fun i => ?_⟩
  fin_cases i <;> simp <;> omega
/-- One column of twenty-four. -/
theorem slicesCol (k : ℕ) (hk : k < 24) : S16x24.Slices ![0, k] S16x1 := by
  refine ⟨rfl, fun i => ?_⟩
  fin_cases i <;> simp <;> omega

/-- The table's row at step `t`. -/
def rowAt (tab : IVec S12x16x24 32) (t : ℕ) (ht : t < 12) : IVec S16x24 32 :=
  shapeCast S16x24 (extractStridedSlice S1x16x24 ![t, 0, 0] tab (slicesStep t ht)) shapeCasts_S1x16x24_S16x24
/-- A table row gathered by beam number. -/
def gathI (x : IVec S16x24 32) (ix : IVec S16x24 32) : (k : ℕ) → k ≤ 24 → IVec S16x24 32
  | 0, _ => x
  | k + 1, hk =>
      select (cmpi .eq ix (broadcast S16x24 (BitVec.ofNat 32 k)))
        (broadcastTo S16x24 (shapeCast S16x1 (extractStridedSlice S16x1 ![0, k] x (slicesCol k hk)) shapeCasts_S16x1_S16x1) broadcasts_S16x1_S16x24)
        (gathI x ix k (Nat.le_of_succ_le hk))
/-- The beams followed back from the last step, `n` steps. -/
def back (bp : IVec S12x16x24 32) : (n : ℕ) → n ≤ 10 → IVec S16x24 32
  | 0, _ => rowAt bp 10 (by decide)
  | n + 1, hn => gathI (rowAt bp (9 - n) (by omega)) (back bp n (Nat.le_of_succ_le hn)) 20 (by decide)
/-- The tokens of step `10 - n` along the final beams. -/
def traced (pr bp : IVec S12x16x24 32) (n : ℕ) (hn : n ≤ 10) : IVec S16x24 32 :=
  gathI (rowAt pr (10 - n) (by omega)) (back bp n hn) 20 (by decide)

end Cert.Beam

end
-- ==== Proof.ModelTrip.lean ====
module

public import proofs.«01_k».proof.Proof.Model

/-! The kernel's loop body is the model's step. -/

@[expose] public section

set_option synthInstance.maxSize 4096
set_option maxRecDepth 100000

noncomputable section

namespace Cert.Beam

open Idealize.ShloMosaic Idealize.SL.Sem Cert.KernelIdeal Cert.KernelIdeal.Gen

variable {F : FTy → Type} [FloatOps F] [Named F]

/-- The four states' masks as the kernel loads them. -/
def maskAt (arg4 : Memref sig .tc .vmem S4x16x24x1024 .i8) (X : BufTy.Contents (Elt F) arg4.view.ty) : ℕ → IVec S1x16x24x1024 8
  | 0 => arg4.view.readAt (Elt F) (Rect.unit (s := S4x16x24x1024) ![0, 0, 0, 0] S1x16x24x1024.size inb_S4x16x24x1024_S1x16x24x1024_0_0_0_0).toLoadRect X
  | 1 => arg4.view.readAt (Elt F) (Rect.unit (s := S4x16x24x1024) ![1, 0, 0, 0] S1x16x24x1024.size inb_S4x16x24x1024_S1x16x24x1024_1_0_0_0).toLoadRect X
  | 2 => arg4.view.readAt (Elt F) (Rect.unit (s := S4x16x24x1024) ![2, 0, 0, 0] S1x16x24x1024.size inb_S4x16x24x1024_S1x16x24x1024_2_0_0_0).toLoadRect X
  | _ => arg4.view.readAt (Elt F) (Rect.unit (s := S4x16x24x1024) ![3, 0, 0, 0] S1x16x24x1024.size inb_S4x16x24x1024_S1x16x24x1024_3_0_0_0).toLoadRect X

set_option maxHeartbeats 4000000 in
theorem tripR_eq  (𝒱 : Variants) (c : Dev nD) (bd : Option 𝒱.V) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole) (v2 : FVec F S1024x1024 .f32) (v3 : Vec F S1024x1024 .f32) (v5 : FVec F S1024x1024 .f32) (v7 : FVec F S16x1024 .f32) (v8 : IVec S16x1024 32) (v20 : FVec F S16x1024 .f32) (v49 : FVec F S16x1 .f32) (v55 : IVec S16x1 32) (v61 : FVec F S16x1 .f32) (v67 : IVec S16x1 32) (v73 : FVec F S16x1 .f32) (v79 : IVec S16x1 32) (v85 : FVec F S16x1 .f32) (v91 : IVec S16x1 32) (v97 : FVec F S16x1 .f32) (v103 : IVec S16x1 32) (v115 : FVec F S16x1 .f32) (v121 : IVec S16x1 32) (v127 : FVec F S16x1 .f32) (v133 : IVec S16x1 32) (v139 : FVec F S16x1 .f32) (v145 : IVec S16x1 32) (v151 : FVec F S16x1 .f32) (v157 : IVec S16x1 32) (v163 : FVec F S16x1 .f32) (v169 : IVec S16x1 32) (v181 : FVec F S16x1 .f32) (v187 : IVec S16x1 32) (v193 : FVec F S16x1 .f32) (v199 : IVec S16x1 32) (v205 : FVec F S16x1 .f32) (v211 : IVec S16x1 32) (v217 : FVec F S16x1 .f32) (v223 : IVec S16x1 32) (v229 : FVec F S16x1 .f32) (v235 : IVec S16x1 32) (v247 : FVec F S16x1 .f32) (v253 : IVec S16x1 32) (v259 : FVec F S16x1 .f32) (v265 : IVec S16x1 32) (v271 : FVec F S16x1 .f32) (v277 : IVec S16x1 32) (v283 : FVec F S16x1 .f32) (v289 : IVec S16x1 32) (v293 : FVec F S16x1024 .f32) (v295 : FVec F S16x1 .f32) (X_arg4 : BufTy.Contents (Elt F) arg4.view.ty) (k : Fin k0_t1_loop.trips) (acc : IVec S16x24 32 × FVec F S16x24 .f32 × FVec F S16x24x1024 .f32 × IVec S12x16x24 32 × IVec S12x16x24 32)
    :
    tripR_k0_t1 (F := F) 𝒱 c bd arg0 harg0 arg1 harg1 arg2 harg2 arg3 harg3 arg4 harg4 arg5 harg5 arg6 harg6 arg7 harg7 arg8 harg8 arg9 harg9 arg10 harg10 v2 v3 v5 v7 v8 v20 v49 v55 v61 v67 v73 v79 v85 v91 v97 v103 v115 v121 v127 v133 v139 v145 v151 v157 v163 v169 v181 v187 v193 v199 v205 v211 v217 v223 v229 v235 v247 v253 v259 v265 v271 v277 v283 v289 v293 v295 step3 lane3 beam2 cand3 beam3 X_arg4 k acc = trip v2 v3 v5 (k0_pay325 v7) (maskAt arg4 X_arg4) (Scf.iv 0#32 1#32 k) acc := by
  unfold tripR_k0_t1 trip_k0_t1
  rfl

/-- The loop's carried value after `n` trips is the model's after `n` steps. -/
theorem st_eq  (𝒱 : Variants) (c : Dev nD) (bd : Option 𝒱.V) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole) (v2 : FVec F S1024x1024 .f32) (v3 : Vec F S1024x1024 .f32) (v5 : FVec F S1024x1024 .f32) (v7 : FVec F S16x1024 .f32) (v8 : IVec S16x1024 32) (v20 : FVec F S16x1024 .f32) (v49 : FVec F S16x1 .f32) (v55 : IVec S16x1 32) (v61 : FVec F S16x1 .f32) (v67 : IVec S16x1 32) (v73 : FVec F S16x1 .f32) (v79 : IVec S16x1 32) (v85 : FVec F S16x1 .f32) (v91 : IVec S16x1 32) (v97 : FVec F S16x1 .f32) (v103 : IVec S16x1 32) (v115 : FVec F S16x1 .f32) (v121 : IVec S16x1 32) (v127 : FVec F S16x1 .f32) (v133 : IVec S16x1 32) (v139 : FVec F S16x1 .f32) (v145 : IVec S16x1 32) (v151 : FVec F S16x1 .f32) (v157 : IVec S16x1 32) (v163 : FVec F S16x1 .f32) (v169 : IVec S16x1 32) (v181 : FVec F S16x1 .f32) (v187 : IVec S16x1 32) (v193 : FVec F S16x1 .f32) (v199 : IVec S16x1 32) (v205 : FVec F S16x1 .f32) (v211 : IVec S16x1 32) (v217 : FVec F S16x1 .f32) (v223 : IVec S16x1 32) (v229 : FVec F S16x1 .f32) (v235 : IVec S16x1 32) (v247 : FVec F S16x1 .f32) (v253 : IVec S16x1 32) (v259 : FVec F S16x1 .f32) (v265 : IVec S16x1 32) (v271 : FVec F S16x1 .f32) (v277 : IVec S16x1 32) (v283 : FVec F S16x1 .f32) (v289 : IVec S16x1 32) (v293 : FVec F S16x1024 .f32) (v295 : FVec F S16x1 .f32) (X_arg4 : BufTy.Contents (Elt F) arg4.view.ty) (init : IVec S16x24 32 × FVec F S16x24 .f32 × FVec F S16x24x1024 .f32 × IVec S12x16x24 32 × IVec S12x16x24 32) (n : ℕ) (hn : n ≤ k0_t1_loop.trips) :
    st_k0_t1 (F := F) 𝒱 c bd arg0 harg0 arg1 harg1 arg2 harg2 arg3 harg3 arg4 harg4 arg5 harg5 arg6 harg6 arg7 harg7 arg8 harg8 arg9 harg9 arg10 harg10 v2 v3 v5 v7 v8 v20 v49 v55 v61 v67 v73 v79 v85 v91 v97 v103 v115 v121 v127 v133 v139 v145 v151 v157 v163 v169 v181 v187 v193 v199 v205 v211 v217 v223 v229 v235 v247 v253 v259 v265 v271 v277 v283 v289 v293 v295 step3 lane3 beam2 cand3 beam3 X_arg4 init n = steps v2 v3 v5 (k0_pay325 v7) (maskAt arg4 X_arg4) init n := by
  induction n with
  | zero => rfl
  | succ n ih =>
    refine (st_k0_t1_succ 𝒱 c bd arg0 harg0 arg1 harg1 arg2 harg2 arg3 harg3 arg4 harg4 arg5 harg5 arg6 harg6 arg7 harg7 arg8 harg8 arg9 harg9 arg10 harg10 v2 v3 v5 v7 v8 v20 v49 v55 v61 v67 v73 v79 v85 v91 v97 v103 v115 v121 v127 v133 v139 v145 v151 v157 v163 v169 v181 v187 v193 v199 v205 v211 v217 v223 v229 v235 v247 v253 v259 v265 v271 v277 v283 v289 v293 v295 step3 lane3 beam2 cand3 beam3 X_arg4 init ⟨n, hn⟩).trans ?_
    rw [ih (Nat.le_of_succ_le hn), tripR_eq]
    rfl

end Cert.Beam

end
-- ==== Proof.ModelRun.lean ====
module

public import proofs.«01_k».proof.Proof.ModelTrip

/-! What the kernel's run leaves in its two outputs, by the model. -/

@[expose] public section

set_option synthInstance.maxSize 4096
set_option maxRecDepth 100000

noncomputable section

namespace Cert.Beam

open Idealize.ShloMosaic Idealize.SL.Sem Cert.KernelIdeal Cert.KernelIdeal.Gen

variable {F : FTy → Type} [FloatOps F] [Named F]

/-- The first step's masks as the kernel loads them. -/
def firstMask (x3 : Vec F S4x16x1024 .i8) : ℕ → IVec S1x16x1024 8
  | 0 => View.ld x3 (Rect.unit (s := S4x16x1024) ![0, 0, 0] S1x16x1024.size inb_S4x16x1024_S1x16x1024_0_0_0)
  | 1 => View.ld x3 (Rect.unit (s := S4x16x1024) ![1, 0, 0] S1x16x1024.size inb_S4x16x1024_S1x16x1024_1_0_0)
  | 2 => View.ld x3 (Rect.unit (s := S4x16x1024) ![2, 0, 0] S1x16x1024.size inb_S4x16x1024_S1x16x1024_2_0_0)
  | _ => View.ld x3 (Rect.unit (s := S4x16x1024) ![3, 0, 0] S1x16x1024.size inb_S4x16x1024_S1x16x1024_3_0_0)
/-- The later steps' masks as the kernel loads them. -/
def stepMask (x4 : Vec F S4x16x24x1024 .i8) : ℕ → IVec S1x16x24x1024 8
  | 0 => View.ld x4 (Rect.unit (s := S4x16x24x1024) ![0, 0, 0, 0] S1x16x24x1024.size inb_S4x16x24x1024_S1x16x24x1024_0_0_0_0)
  | 1 => View.ld x4 (Rect.unit (s := S4x16x24x1024) ![1, 0, 0, 0] S1x16x24x1024.size inb_S4x16x24x1024_S1x16x24x1024_1_0_0_0)
  | 2 => View.ld x4 (Rect.unit (s := S4x16x24x1024) ![2, 0, 0, 0] S1x16x24x1024.size inb_S4x16x24x1024_S1x16x24x1024_2_0_0_0)
  | _ => View.ld x4 (Rect.unit (s := S4x16x24x1024) ![3, 0, 0, 0] S1x16x24x1024.size inb_S4x16x24x1024_S1x16x24x1024_3_0_0_0)

/-- What the search carries after its last step, from the kernel's inputs and the masks it loads. -/
def final (x0 : Vec F S16x1024 .f32) (x1 : Vec F S16x1 .i32) (x2 : Vec F S16x1024 .f32) (m0 : ℕ → IVec S1x16x1024 8) (m1 : ℕ → IVec S1x16x24x1024 8) (x5 x6 x7 x8 : Vec F S1024x1024 .f32) : Carried F :=
  steps (shapeCast S1024x1024 x5 shapeCasts_S1024x1024_S1024x1024) x6 (shapeCast S1024x1024 x8 shapeCasts_S1024x1024_S1024x1024)
    (shapeCast S384x1024 (perBeam (featPart x0 x7)) shapeCasts_S16x24x1024_S384x1024) m1
    (start (hidden0 x0 (shapeCast S1024x1024 x5 shapeCasts_S1024x1024_S1024x1024) x6 x7 x1 x2) (shapeCast S1024x1024 x8 shapeCasts_S1024x1024_S1024x1024) m0) 11

/-- The twelve rows of tokens the kernel stores, last first. -/
def rowPieces (pr bp : IVec S12x16x24 32) : List (View.Piece (Elt F) S12x16x24 .i32) :=
  [⟨(Rect.unit (s := S12x16x24) ![11, 0, 0] S1x16x24.size inb_S12x16x24_S1x16x24_11_0_0), shapeCast S1x16x24 (rowAt pr 11 (by decide)) shapeCasts_S16x24_S1x16x24⟩,
    ⟨(Rect.unit (s := S12x16x24) ![10, 0, 0] S1x16x24.size inb_S12x16x24_S1x16x24_10_0_0), shapeCast S1x16x24 (traced pr bp 0 (by decide)) shapeCasts_S16x24_S1x16x24⟩,
    ⟨(Rect.unit (s := S12x16x24) ![9, 0, 0] S1x16x24.size inb_S12x16x24_S1x16x24_9_0_0), shapeCast S1x16x24 (traced pr bp 1 (by decide)) shapeCasts_S16x24_S1x16x24⟩,
    ⟨(Rect.unit (s := S12x16x24) ![8, 0, 0] S1x16x24.size inb_S12x16x24_S1x16x24_8_0_0), shapeCast S1x16x24 (traced pr bp 2 (by decide)) shapeCasts_S16x24_S1x16x24⟩,
    ⟨(Rect.unit (s := S12x16x24) ![7, 0, 0] S1x16x24.size inb_S12x16x24_S1x16x24_7_0_0), shapeCast S1x16x24 (traced pr bp 3 (by decide)) shapeCasts_S16x24_S1x16x24⟩,
    ⟨(Rect.unit (s := S12x16x24) ![6, 0, 0] S1x16x24.size inb_S12x16x24_S1x16x24_6_0_0), shapeCast S1x16x24 (traced pr bp 4 (by decide)) shapeCasts_S16x24_S1x16x24⟩,
    ⟨(Rect.unit (s := S12x16x24) ![5, 0, 0] S1x16x24.size inb_S12x16x24_S1x16x24_5_0_0), shapeCast S1x16x24 (traced pr bp 5 (by decide)) shapeCasts_S16x24_S1x16x24⟩,
    ⟨(Rect.unit (s := S12x16x24) ![4, 0, 0] S1x16x24.size inb_S12x16x24_S1x16x24_4_0_0), shapeCast S1x16x24 (traced pr bp 6 (by decide)) shapeCasts_S16x24_S1x16x24⟩,
    ⟨(Rect.unit (s := S12x16x24) ![3, 0, 0] S1x16x24.size inb_S12x16x24_S1x16x24_3_0_0), shapeCast S1x16x24 (traced pr bp 7 (by decide)) shapeCasts_S16x24_S1x16x24⟩,
    ⟨(Rect.unit (s := S12x16x24) ![2, 0, 0] S1x16x24.size inb_S12x16x24_S1x16x24_2_0_0), shapeCast S1x16x24 (traced pr bp 8 (by decide)) shapeCasts_S16x24_S1x16x24⟩,
    ⟨(Rect.unit (s := S12x16x24) ![1, 0, 0] S1x16x24.size inb_S12x16x24_S1x16x24_1_0_0), shapeCast S1x16x24 (traced pr bp 9 (by decide)) shapeCasts_S16x24_S1x16x24⟩,
    ⟨(Rect.unit (s := S12x16x24) ![0, 0, 0] S1x16x24.size inb_S12x16x24_S1x16x24_0_0_0), shapeCast S1x16x24 (traced pr bp 10 (by decide)) shapeCasts_S16x24_S1x16x24⟩]

/-- The loads of the steps' masks, read off the block. -/
theorem maskAt_unread (arg4 : Memref sig .tc .vmem S4x16x24x1024 .i8) (harg4 : arg4.IsWhole) (x4 : Vec F S4x16x24x1024 .i8) :
    maskAt arg4 (harg4.unread x4) = stepMask x4 := by
  funext s
  rcases s with _ | _ | _ | s <;> simp only [maskAt, stepMask, View.readAt_eq_ld, harg4.read_unread]

/-- The first step's masks as the kernel loads them, from the block's contents. -/
def firstMaskAt (arg3 : Memref sig .tc .vmem S4x16x1024 .i8) (X : BufTy.Contents (Elt F) arg3.view.ty) : ℕ → IVec S1x16x1024 8
  | 0 => arg3.view.readAt (Elt F) (Rect.unit (s := S4x16x1024) ![0, 0, 0] S1x16x1024.size inb_S4x16x1024_S1x16x1024_0_0_0).toLoadRect X
  | 1 => arg3.view.readAt (Elt F) (Rect.unit (s := S4x16x1024) ![1, 0, 0] S1x16x1024.size inb_S4x16x1024_S1x16x1024_1_0_0).toLoadRect X
  | 2 => arg3.view.readAt (Elt F) (Rect.unit (s := S4x16x1024) ![2, 0, 0] S1x16x1024.size inb_S4x16x1024_S1x16x1024_2_0_0).toLoadRect X
  | _ => arg3.view.readAt (Elt F) (Rect.unit (s := S4x16x1024) ![3, 0, 0] S1x16x1024.size inb_S4x16x1024_S1x16x1024_3_0_0).toLoadRect X

theorem firstMaskAt_unread (arg3 : Memref sig .tc .vmem S4x16x1024 .i8) (harg3 : arg3.IsWhole) (x3 : Vec F S4x16x1024 .i8) :
    firstMaskAt arg3 (harg3.unread x3) = firstMask x3 := by
  funext s
  rcases s with _ | _ | _ | s <;> simp only [firstMaskAt, firstMask, View.readAt_eq_ld, harg3.read_unread]

set_option maxHeartbeats 1000000 in
/-- The loop's end: the beams' scores. -/
theorem end_scores  (c : Dev nD) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole)
    (x0 : Vec F S16x1024 .f32) (x1 : Vec F S16x1 .i32) (x2 : Vec F S16x1024 .f32) (x3 : Vec F S4x16x1024 .i8) (x4 : Vec F S4x16x24x1024 .i8) (x5 : Vec F S1024x1024 .f32) (x6 : Vec F S1024x1024 .f32) (x7 : Vec F S1024x1024 .f32) (x8 : Vec F S1024x1024 .f32) :
    kernelRun0_A.sl.r_6 c arg0 harg0 arg1 harg1 arg2 harg2 arg3 harg3 arg4 harg4 arg5 harg5 arg6 harg6 arg7 harg7 arg8 harg8 arg9 harg9 arg10 harg10 x0 x1 x2 x3 x4 x5 x6 x7 x8 = ((final (arg0.view.readAt (Elt F) (Rect.unit (s := S16x1024) ![0, 0] S16x1024.size inb_S16x1024_S16x1024_0_0).toLoadRect (harg0.unread x0)) (arg1.view.readAt (Elt F) (Rect.unit (s := S16x1) ![0, 0] S16x1.size inb_S16x1_S16x1_0_0).toLoadRect (harg1.unread x1)) (arg2.view.readAt (Elt F) (Rect.unit (s := S16x1024) ![0, 0] S16x1024.size inb_S16x1024_S16x1024_0_0).toLoadRect (harg2.unread x2)) (firstMaskAt arg3 (harg3.unread x3)) (maskAt arg4 (harg4.unread x4)) (arg5.view.readAt (Elt F) (Rect.unit (s := S1024x1024) ![0, 0] S1024x1024.size inb_S1024x1024_S1024x1024_0_0).toLoadRect (harg5.unread x5)) (arg6.view.readAt (Elt F) (Rect.unit (s := S1024x1024) ![0, 0] S1024x1024.size inb_S1024x1024_S1024x1024_0_0).toLoadRect (harg6.unread x6)) (arg7.view.readAt (Elt F) (Rect.unit (s := S1024x1024) ![0, 0] S1024x1024.size inb_S1024x1024_S1024x1024_0_0).toLoadRect (harg7.unread x7)) (arg8.view.readAt (Elt F) (Rect.unit (s := S1024x1024) ![0, 0] S1024x1024.size inb_S1024x1024_S1024x1024_0_0).toLoadRect (harg8.unread x8)))).2.1 := by
  unfold kernelRun0_A.sl.r_6
  exact (congrArg (fun p : Carried F => p.2.1) (st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _))).trans rfl

set_option maxHeartbeats 1000000 in
/-- The loop's end: the tokens' table. -/
theorem end_tokens  (c : Dev nD) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole)
    (x0 : Vec F S16x1024 .f32) (x1 : Vec F S16x1 .i32) (x2 : Vec F S16x1024 .f32) (x3 : Vec F S4x16x1024 .i8) (x4 : Vec F S4x16x24x1024 .i8) (x5 : Vec F S1024x1024 .f32) (x6 : Vec F S1024x1024 .f32) (x7 : Vec F S1024x1024 .f32) (x8 : Vec F S1024x1024 .f32) :
    kernelRun0_A.sl.r_7 c arg0 harg0 arg1 harg1 arg2 harg2 arg3 harg3 arg4 harg4 arg5 harg5 arg6 harg6 arg7 harg7 arg8 harg8 arg9 harg9 arg10 harg10 x0 x1 x2 x3 x4 x5 x6 x7 x8 = ((final (arg0.view.readAt (Elt F) (Rect.unit (s := S16x1024) ![0, 0] S16x1024.size inb_S16x1024_S16x1024_0_0).toLoadRect (harg0.unread x0)) (arg1.view.readAt (Elt F) (Rect.unit (s := S16x1) ![0, 0] S16x1.size inb_S16x1_S16x1_0_0).toLoadRect (harg1.unread x1)) (arg2.view.readAt (Elt F) (Rect.unit (s := S16x1024) ![0, 0] S16x1024.size inb_S16x1024_S16x1024_0_0).toLoadRect (harg2.unread x2)) (firstMaskAt arg3 (harg3.unread x3)) (maskAt arg4 (harg4.unread x4)) (arg5.view.readAt (Elt F) (Rect.unit (s := S1024x1024) ![0, 0] S1024x1024.size inb_S1024x1024_S1024x1024_0_0).toLoadRect (harg5.unread x5)) (arg6.view.readAt (Elt F) (Rect.unit (s := S1024x1024) ![0, 0] S1024x1024.size inb_S1024x1024_S1024x1024_0_0).toLoadRect (harg6.unread x6)) (arg7.view.readAt (Elt F) (Rect.unit (s := S1024x1024) ![0, 0] S1024x1024.size inb_S1024x1024_S1024x1024_0_0).toLoadRect (harg7.unread x7)) (arg8.view.readAt (Elt F) (Rect.unit (s := S1024x1024) ![0, 0] S1024x1024.size inb_S1024x1024_S1024x1024_0_0).toLoadRect (harg8.unread x8)))).2.2.2.1 := by
  unfold kernelRun0_A.sl.r_7
  exact (congrArg (fun p : Carried F => p.2.2.2.1) (st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _))).trans rfl

set_option maxHeartbeats 1000000 in
/-- The loop's end: the parents' table. -/
theorem end_parents  (c : Dev nD) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole)
    (x0 : Vec F S16x1024 .f32) (x1 : Vec F S16x1 .i32) (x2 : Vec F S16x1024 .f32) (x3 : Vec F S4x16x1024 .i8) (x4 : Vec F S4x16x24x1024 .i8) (x5 : Vec F S1024x1024 .f32) (x6 : Vec F S1024x1024 .f32) (x7 : Vec F S1024x1024 .f32) (x8 : Vec F S1024x1024 .f32) :
    kernelRun0_A.sl.r_8 c arg0 harg0 arg1 harg1 arg2 harg2 arg3 harg3 arg4 harg4 arg5 harg5 arg6 harg6 arg7 harg7 arg8 harg8 arg9 harg9 arg10 harg10 x0 x1 x2 x3 x4 x5 x6 x7 x8 = ((final (arg0.view.readAt (Elt F) (Rect.unit (s := S16x1024) ![0, 0] S16x1024.size inb_S16x1024_S16x1024_0_0).toLoadRect (harg0.unread x0)) (arg1.view.readAt (Elt F) (Rect.unit (s := S16x1) ![0, 0] S16x1.size inb_S16x1_S16x1_0_0).toLoadRect (harg1.unread x1)) (arg2.view.readAt (Elt F) (Rect.unit (s := S16x1024) ![0, 0] S16x1024.size inb_S16x1024_S16x1024_0_0).toLoadRect (harg2.unread x2)) (firstMaskAt arg3 (harg3.unread x3)) (maskAt arg4 (harg4.unread x4)) (arg5.view.readAt (Elt F) (Rect.unit (s := S1024x1024) ![0, 0] S1024x1024.size inb_S1024x1024_S1024x1024_0_0).toLoadRect (harg5.unread x5)) (arg6.view.readAt (Elt F) (Rect.unit (s := S1024x1024) ![0, 0] S1024x1024.size inb_S1024x1024_S1024x1024_0_0).toLoadRect (harg6.unread x6)) (arg7.view.readAt (Elt F) (Rect.unit (s := S1024x1024) ![0, 0] S1024x1024.size inb_S1024x1024_S1024x1024_0_0).toLoadRect (harg7.unread x7)) (arg8.view.readAt (Elt F) (Rect.unit (s := S1024x1024) ![0, 0] S1024x1024.size inb_S1024x1024_S1024x1024_0_0).toLoadRect (harg8.unread x8)))).2.2.2.2 := by
  unfold kernelRun0_A.sl.r_8
  exact (congrArg (fun p : Carried F => p.2.2.2.2) (st_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (le_refl _))).trans rfl

set_option maxHeartbeats 4000000 in
/-- The pieces of the tokens' output, over the two tables. -/
theorem run_rows  (c : Dev nD) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole)
    (x0 : Vec F S16x1024 .f32) (x1 : Vec F S16x1 .i32) (x2 : Vec F S16x1024 .f32) (x3 : Vec F S4x16x1024 .i8) (x4 : Vec F S4x16x24x1024 .i8) (x5 : Vec F S1024x1024 .f32) (x6 : Vec F S1024x1024 .f32) (x7 : Vec F S1024x1024 .f32) (x8 : Vec F S1024x1024 .f32) :
    (kernelRun0_A c arg0 harg0 arg1 harg1 arg2 harg2 arg3 harg3 arg4 harg4 arg5 harg5 arg6 harg6 arg7 harg7 arg8 harg8 arg9 harg9 arg10 harg10 x0 x1 x2 x3 x4 x5 x6 x7 x8).1 = rowPieces (kernelRun0_A.sl.r_7 c arg0 harg0 arg1 harg1 arg2 harg2 arg3 harg3 arg4 harg4 arg5 harg5 arg6 harg6 arg7 harg7 arg8 harg8 arg9 harg9 arg10 harg10 x0 x1 x2 x3 x4 x5 x6 x7 x8) (kernelRun0_A.sl.r_8 c arg0 harg0 arg1 harg1 arg2 harg2 arg3 harg3 arg4 harg4 arg5 harg5 arg6 harg6 arg7 harg7 arg8 harg8 arg9 harg9 arg10 harg10 x0 x1 x2 x3 x4 x5 x6 x7 x8) := by
  unfold kernelRun0_A
  rfl

set_option maxHeartbeats 4000000 in
/-- The piece of the scores' output. -/
theorem run_last  (c : Dev nD) (arg0 : Memref sig .tc .vmem S16x1024 .f32) (harg0 : arg0.IsWhole) (arg1 : Memref sig .tc .vmem S16x1 .i32) (harg1 : arg1.IsWhole) (arg2 : Memref sig .tc .vmem S16x1024 .f32) (harg2 : arg2.IsWhole) (arg3 : Memref sig .tc .vmem S4x16x1024 .i8) (harg3 : arg3.IsWhole) (arg4 : Memref sig .tc .vmem S4x16x24x1024 .i8) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S12x16x24 .i32) (harg9 : arg9.IsWhole) (arg10 : Memref sig .tc .vmem S16x24 .f32) (harg10 : arg10.IsWhole)
    (x0 : Vec F S16x1024 .f32) (x1 : Vec F S16x1 .i32) (x2 : Vec F S16x1024 .f32) (x3 : Vec F S4x16x1024 .i8) (x4 : Vec F S4x16x24x1024 .i8) (x5 : Vec F S1024x1024 .f32) (x6 : Vec F S1024x1024 .f32) (x7 : Vec F S1024x1024 .f32) (x8 : Vec F S1024x1024 .f32) :
    (kernelRun0_A c arg0 harg0 arg1 harg1 arg2 harg2 arg3 harg3 arg4 harg4 arg5 harg5 arg6 harg6 arg7 harg7 arg8 harg8 arg9 harg9 arg10 harg10 x0 x1 x2 x3 x4 x5 x6 x7 x8).2.1 = [⟨Rect.unit (s := S16x24) ![0, 0] S16x24.size inb_S16x24_S16x24_0_0, kernelRun0_A.sl.r_6 c arg0 harg0 arg1 harg1 arg2 harg2 arg3 harg3 arg4 harg4 arg5 harg5 arg6 harg6 arg7 harg7 arg8 harg8 arg9 harg9 arg10 harg10 x0 x1 x2 x3 x4 x5 x6 x7 x8⟩] := by
  unfold kernelRun0_A
  rfl

end Cert.Beam

end
-- ==== Proof.KernelOut.lean ====
module

public import proofs.«01_k».proof.Proof.ModelRun
public import proofs.«01_k».proof.Proof.Gen.KernelIdeal.Frame
public import Idealize.ShloMosaic.Lib.Pipeline.ValueKit
public import Idealize.ShloMosaic.Lib.Pointwise

/-! The kernel's two output arrays after the launch, by the model. -/

@[expose] public section

set_option maxRecDepth 16384

noncomputable section

namespace Cert.Beam

open Idealize.ShloMosaic Idealize.ShloMosaic.TcCoe Idealize.SL.Sem Cert.KernelIdeal Cert.KernelIdeal.Gen

/-- The tokens' row that is stored at step `t`. -/
def rowOf (pr bp : IVec S12x16x24 32) (t : ℕ) : IVec S16x24 32 :=
  if t = 11 then rowAt pr 11 (by decide) else traced pr bp (10 - t) (by omega)

theorem row_piece (x : IVec S16x24 32) (y : S12x16x24.Idx) (z : S1x16x24.Idx) (h1 : (y 1 : ℕ) = (z 1 : ℕ)) (h2 : (y 2 : ℕ) = (z 2 : ℕ)) :
    shapeCast S1x16x24 x shapeCasts_S16x24_S1x16x24 z = x (ix2 (y 1) (y 2)) := by
  idx_vars z
  pointwise []
  exact congrArg x (by congr 1 <;> exact Fin.ext (by first | exact h1.symm | exact h2.symm))

theorem rows_at (pr bp : IVec S12x16x24 32) (y : S12x16x24.Idx) :
    View.canon (Val := Elt Ideal) (rowPieces pr bp) y = rowOf pr bp (y 0).val (ix2 (y 1) (y 2)) := by
  unfold rowPieces
  canon_tiles x h
  all_goals
    refine (row_piece _ y x (by omega) (by omega)).trans (congrFun ?_ _)
    have e' : (x 0).val = 0 := by omega
    rw [e'] at h0
    rw [h0]
    simp only [rowOf, Nat.reduceAdd, Nat.reduceEqDiff, if_false, Nat.reduceSub, if_true]

theorem zero2 : (![0, 0] : Fin 2 → ℕ) = fun _ => 0 := by funext a; fin_cases a <;> rfl

/-- A load of a whole staged block reads the block. -/
theorem load_whole {S : Shape} {e : EltTy} (arg : Memref sig .tc .vmem S e) (h : arg.IsWhole) {off : Fin S.rank → ℕ} (hz : off = fun _ => 0)
    (inb : ∀ a, off a + S.size a ≤ S.size a) (X : Vec Ideal S e) :
    arg.view.readAt (Elt Ideal) (Rect.unit off S.size inb).toLoadRect (h.unread X) = X := by
  rw [View.readAt_eq_ld, h.read_unread]
  exact View.ld_unit_zero hz inb X

variable (m : (ℓ : Loc nD τ sig) → Buf (Elt Ideal) ℓ)

/-- What the search carries at its end, from the blocks at a grid point. -/
def atEnd (c : Dev nD) (t : Fin cfg0.N) : Carried Ideal :=
  final (iblk m c 0 t) (iblk m c 1 t) (iblk m c 2 t) (firstMask (iblk m c 3 t)) (stepMask (iblk m c 4 t)) (iblk m c 5 t) (iblk m c 6 t) (iblk m c 7 t) (iblk m c 8 t)

theorem final_loads (c : Dev nD) (t : Fin cfg0.N) :
    final ((ms0_0 t).view.readAt (Elt Ideal) (Rect.unit (s := S16x1024) ![0, 0] S16x1024.size inb_S16x1024_S16x1024_0_0).toLoadRect ((hs0_0 t).unread (iblk m c 0 t)))
      ((ms0_1 t).view.readAt (Elt Ideal) (Rect.unit (s := S16x1) ![0, 0] S16x1.size inb_S16x1_S16x1_0_0).toLoadRect ((hs0_1 t).unread (iblk m c 1 t)))
      ((ms0_2 t).view.readAt (Elt Ideal) (Rect.unit (s := S16x1024) ![0, 0] S16x1024.size inb_S16x1024_S16x1024_0_0).toLoadRect ((hs0_2 t).unread (iblk m c 2 t)))
      (firstMaskAt (ms0_3 t) ((hs0_3 t).unread (iblk m c 3 t))) (maskAt (ms0_4 t) ((hs0_4 t).unread (iblk m c 4 t)))
      ((ms0_5 t).view.readAt (Elt Ideal) (Rect.unit (s := S1024x1024) ![0, 0] S1024x1024.size inb_S1024x1024_S1024x1024_0_0).toLoadRect ((hs0_5 t).unread (iblk m c 5 t)))
      ((ms0_6 t).view.readAt (Elt Ideal) (Rect.unit (s := S1024x1024) ![0, 0] S1024x1024.size inb_S1024x1024_S1024x1024_0_0).toLoadRect ((hs0_6 t).unread (iblk m c 6 t)))
      ((ms0_7 t).view.readAt (Elt Ideal) (Rect.unit (s := S1024x1024) ![0, 0] S1024x1024.size inb_S1024x1024_S1024x1024_0_0).toLoadRect ((hs0_7 t).unread (iblk m c 7 t)))
      ((ms0_8 t).view.readAt (Elt Ideal) (Rect.unit (s := S1024x1024) ![0, 0] S1024x1024.size inb_S1024x1024_S1024x1024_0_0).toLoadRect ((hs0_8 t).unread (iblk m c 8 t)))
      = atEnd m c t := by
  rw [load_whole (ms0_0 t) (hs0_0 t) zero2, load_whole (ms0_1 t) (hs0_1 t) zero2, load_whole (ms0_2 t) (hs0_2 t) zero2, firstMaskAt_unread, maskAt_unread,
    load_whole (ms0_5 t) (hs0_5 t) zero2, load_whole (ms0_6 t) (hs0_6 t) zero2, load_whole (ms0_7 t) (hs0_7 t) zero2, load_whole (ms0_8 t) (hs0_8 t) zero2]
  rfl

/-- The first output block: the rows of tokens. -/
theorem out9_eq (c : Dev nD) (t : Fin cfg0.N) :
    (outsAt0 m c t).1 = View.canon (Val := Elt Ideal) (rowPieces (atEnd m c t).2.2.2.1 (atEnd m c t).2.2.2.2) := by
  unfold outsAt0 out0_A_9
  dsimp only
  rw [View.read_writes_junk_eq_canon, run_rows, end_tokens, end_parents, final_loads]

/-- The second output block: the scores. -/
theorem out10_eq (c : Dev nD) (t : Fin cfg0.N) : (outsAt0 m c t).2 = (atEnd m c t).2.1 := by
  unfold outsAt0 out0_A_10
  dsimp only
  rw [View.read_writes_junk_eq_canon, run_last, end_scores, final_loads]
  exact View.canon_unit_zero (S := S16x24) zero2 _ _

theorem arr9 (c : Dev nD) : (dats m 0 c).arrAt 9 (cfgs 0).N = fun y : S12x16x24.Idx => rowOf (atEnd m c t0_0).2.2.2.1 (atEnd m c t0_0).2.2.2.2 (y 0).val (ix2 (y 1) (y 2)) := by
  refine (dats m 0 c).arrAt_eq_of_after_last 9 t0_0 (by decide +kernel) _ fun j => ?_
  blk_simp
  rw [after0_9, out9_eq, rows_at]

theorem arr10 (c : Dev nD) : (dats m 0 c).arrAt 10 (cfgs 0).N = (atEnd m c t0_0).2.1 := by
  refine (dats m 0 c).arrAt_eq_of_after_last 10 t0_0 (by decide +kernel) _ fun j => ?_
  blk_simp
  rw [after0_10, out10_eq]

end Cert.Beam

end
-- ==== Proof.KernelHost.lean ====
module

public import proofs.«01_k».proof.Proof.KernelOut
public import Idealize.ShloMosaic.Lib.Routing.OpsSet
public import Idealize.ShloMosaic.Lib.Claim
public import Idealize.ShloMosaic.Lib.StableHlo.RunRead
public import Idealize.ShloMosaic.Lib.Tactic.CleanTypes

/-! The kernel's operands as the host prepares them, and its results as the host hands them on. -/

@[expose] public section

set_option maxRecDepth 16384

noncomputable section

namespace Cert.Beam

open Idealize.ShloMosaic Idealize.ShloMosaic.TcCoe Idealize.SL.Sem Cert.KernelIdeal Cert.KernelIdeal.Gen

theorem start_zero {s si u : Shape} (d : ScatterDims s si u) (k : u.Idx) (idx : IVec si 32) (h : ∀ i, idx i = 0#32) (a : Fin s.rank) : d.start k idx a = 0 := by
  unfold ScatterDims.start
  split
  · rw [h]; rfl
  · rfl

/-- An array put into the first corner of a larger one, read inside it. -/
theorem corner_hit {α : Type} {s si u : Shape} (d : ScatterDims s si u) (x0 : s.Idx → α) (idx : IVec si 32) (h : ∀ i, idx i = 0#32) (upd : u.Idx → α)
    (ι : s.Idx) (k : u.Idx) (hk : ∀ a, d.window k a = (ι a).val) (hinj : ∀ k', (∀ a, d.window k' a = (ι a).val) → k' = k) :
    Host.scatter d (fun _ b => b) x0 idx upd ι = upd k := by
  refine Routing.scatter_set_hit d x0 idx upd ι (upd k) (fun k' hk' => ?_) k ?_
  · rw [Routing.resultIdx?_eq_some] at hk'
    refine congrArg upd (hinj k' fun a => ?_)
    have := hk' a
    rw [start_zero d k' idx h a] at this
    omega
  · rw [Routing.resultIdx?_eq_some]
    intro a
    rw [start_zero d k idx h a, hk a]
    omega

/-- The same read outside it. -/
theorem corner_miss {α : Type} {s si u : Shape} (d : ScatterDims s si u) (x0 : s.Idx → α) (idx : IVec si 32) (h : ∀ i, idx i = 0#32) (upd : u.Idx → α)
    (ι : s.Idx) (hno : ∀ k : u.Idx, ∃ a, d.window k a ≠ (ι a).val) :
    Host.scatter d (fun _ b => b) x0 idx upd ι = x0 ι := by
  refine Routing.scatter_set_miss d x0 idx upd ι fun k hk => ?_
  rw [Routing.resultIdx?_eq_some] at hk
  obtain ⟨a, ha⟩ := hno k
  have := hk a
  rw [start_zero d k idx h a] at this
  omega

theorem win_E (k : S1000x1024.Idx) (a : Fin 2) : scatter_S1024x1024_S1_S1000x1024_01_n_0_0.window k a = (k a).val := by
  fin_cases a <;> rfl
theorem win_W (k : S1024x1000.Idx) (a : Fin 2) : scatter_S1024x1024_S1_S1024x1000_01_n_1_0.window k a = (k a).val := by
  fin_cases a <;> rfl
theorem win_m (k : S4x16x1000.Idx) (a : Fin 3) : scatter_S4x16x1024_S1_S4x16x1000_012_n_2_0.window k a = (k a).val := by
  fin_cases a <;> rfl
theorem win_M (k : S4x16x20x1000.Idx) (a : Fin 4) : scatter_S4x16x24x1024_S2_S4x16x20x1000_0123_n_23_0.window k a = (k a).val := by
  fin_cases a <;> rfl

variable (m : (ℓ : Loc nD τ sig) → Buf (Elt Ideal) ℓ) (c : Dev nD)

theorem V_sp (b : Fin 16) : V m c main_v0 (ix2 b 0) = m ((c.tc : Thread nD τ).loc main_arg1) (ix1 b) := by
  show StableHlo.after hostOps0 (fun b => m (c, b)) (Proc.devRef .tc main_v0) _ = _
  unfold hostOps0
  after_results
  clean_types
  pointwise []

theorem V_E (v : Fin 1000) (l : Fin 1024) : V m c main_v3 (ix2 ⟨v.val, by omega⟩ l) = m ((c.tc : Thread nD τ).loc main_arg5) (ix2 v l) := by
  show StableHlo.after hostOps0 (fun b => m (c, b)) (Proc.devRef .tc main_v3) _ = _
  unfold hostOps0
  after_results
  refine corner_hit _ _ _ (fun i => by idx_vars i; pointwise []) _ _ (ix2 v l) (fun a => ?_) (fun k' hk' => ?_)
  · rw [win_E]; fin_cases a <;> rfl
  · idx_vars k'
    have h0 := hk' 0
    have h1 := hk' 1
    rw [win_E] at h0 h1
    congr 1 <;> exact Fin.ext (by assumption)

theorem V_Wo (l : Fin 1024) (v : Fin 1000) : V m c main_v6 (ix2 l ⟨v.val, by omega⟩) = m ((c.tc : Thread nD τ).loc main_arg8) (ix2 l v) := by
  show StableHlo.after hostOps0 (fun b => m (c, b)) (Proc.devRef .tc main_v6) _ = _
  unfold hostOps0
  after_results
  refine corner_hit _ _ _ (fun i => by idx_vars i; pointwise []) _ _ (ix2 l v) (fun a => ?_) (fun k' hk' => ?_)
  · rw [win_W]; fin_cases a <;> rfl
  · idx_vars k'
    have h0 := hk' 0
    have h1 := hk' 1
    rw [win_W] at h0 h1
    congr 1 <;> exact Fin.ext (by assumption)

theorem V_m (s : Fin 4) (b : Fin 16) (v : Fin 1000) :
    V m c main_v13 (ix3 s b ⟨v.val, by omega⟩) = (m ((c.tc : Thread nD τ).loc main_arg3) (ix4 b 0 s v)).setWidth 8 := by
  show StableHlo.after hostOps0 (fun b => m (c, b)) (Proc.devRef .tc main_v13) _ = _
  unfold hostOps0
  after_results
  clean_types
  refine (corner_hit _ _ _ (fun i => by idx_vars i; pointwise []) _ _ (ix3 s b v) (fun a => ?_) (fun k' hk' => ?_)).trans ?_
  · rw [win_m]; fin_cases a <;> rfl
  · idx_vars k'
    have h0 := hk' 0
    have h1 := hk' 1
    have h2 := hk' 2
    rw [win_m] at h0 h1 h2
    congr 1 <;> exact Fin.ext (by assumption)
  · pointwise []

theorem V_M (s : Fin 4) (b : Fin 16) (j : Fin 20) (v : Fin 1000) :
    V m c main_v22 (ix4 s b ⟨j.val, by omega⟩ ⟨v.val, by omega⟩) = (m ((c.tc : Thread nD τ).loc main_arg3) (ix4 b ⟨j.val / 5, by omega⟩ s v)).setWidth 8 := by
  show StableHlo.after hostOps0 (fun b => m (c, b)) (Proc.devRef .tc main_v22) _ = _
  unfold hostOps0
  after_results
  clean_types
  refine (corner_hit _ _ _ (fun i => by idx_vars i; pointwise []; split <;> rfl) _ _ (ix4 s b j v) (fun a => ?_) (fun k' hk' => ?_)).trans ?_
  · rw [win_M]; fin_cases a <;> rfl
  · idx_vars k'
    have h0 := hk' 0
    have h1 := hk' 1
    have h2 := hk' 2
    have h3 := hk' 3
    rw [win_M] at h0 h1 h2 h3
    congr 1 <;> exact Fin.ext (by assumption)
  · pointwise []

theorem V_M_out (s : Fin 4) (b : Fin 16) (j : Fin 20) (v : Fin 1024) (hv : 1000 ≤ v.val) :
    V m c main_v22 (ix4 s b ⟨j.val, by omega⟩ v) = 0#8 := by
  show StableHlo.after hostOps0 (fun b => m (c, b)) (Proc.devRef .tc main_v22) _ = _
  unfold hostOps0
  after_results
  clean_types
  refine (corner_miss _ _ _ (fun i => by idx_vars i; pointwise []; split <;> rfl) _ _ (fun k => ⟨3, ?_⟩)).trans ?_
  · rw [win_M]
    have h : (k 3).val < 1000 := (k 3).isLt
    show (k 3).val ≠ v.val
    omega
  · pointwise []

end Cert.Beam

end
-- ==== Proof.Top.lean ====
module

public import Idealize.ShloMosaic.Lib.SortFacts
public import Idealize.ShloMosaic.PureOps.Ideal.Laws

/-! The greatest entries of a row, in order, and the search that strikes out one entry at a time. -/

@[expose] public section

noncomputable section

namespace Cert.Beam

open Idealize.ShloMosaic

/-- The place of the `r`-th greatest entry of a row, equal entries in the order of their places. -/
def top {n : ℕ} (x : Fin n → EReal) (r : Fin n) : Fin n :=
  sortedFrom (fun k k' => decide (x k' < x k)) r

/-- `a` stands before `b` in the order of the search. -/
def Ahead {n : ℕ} (x : Fin n → EReal) (a b : Fin n) : Prop := x b < x a ∨ (x a = x b ∧ a < b)

theorem ahead_asymm {n : ℕ} {x : Fin n → EReal} {a b : Fin n} (h : Ahead x a b) : ¬ Ahead x b a := by
  unfold Ahead at *
  rintro (h' | ⟨h', h''⟩) <;> rcases h with h | ⟨h, h3⟩
  · exact lt_asymm h h'
  · exact absurd h' (by rw [h]; exact lt_irrefl _)
  · exact absurd h (by rw [h']; exact lt_irrefl _)
  · exact lt_asymm h'' h3

theorem ahead_total {n : ℕ} {x : Fin n → EReal} {a b : Fin n} (h : a ≠ b) : Ahead x a b ∨ Ahead x b a := by
  unfold Ahead
  rcases lt_trichotomy (x a) (x b) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem ahead_trans {n : ℕ} {x : Fin n → EReal} {a b c : Fin n} (h : Ahead x a b) (h' : Ahead x b c) : Ahead x a c := by
  unfold Ahead at *
  rcases h with h | ⟨h, h1⟩ <;> rcases h' with h' | ⟨h', h1'⟩
  · exact .inl (h'.trans h)
  · exact .inl (h' ▸ h)
  · exact .inl (h ▸ h')
  · exact .inr ⟨h.trans h', h1.trans h1'⟩

/-- Of two places the earlier in the sorted order is ahead. -/
theorem top_ahead {n : ℕ} (x : Fin n → EReal) {i j : Fin n} (hij : i < j) : Ahead x (top x i) (top x j) := by
  classical
  have key : (sortPositions n fun k k' => decide (x k' < x k)) = sortPositions n fun k k' => decide (Ahead x k k') := by
    -- insertion in order of places keeps equal entries in that order
    have ins : ∀ (a : Fin n) (l : List (Fin n)), (∀ b ∈ l, a < b) →
        insertBefore (fun k k' => decide (x k' < x k)) a l = insertBefore (fun k k' => decide (Ahead x k k')) a l := by
      intro a l hl
      refine insertBefore_congr _ _ a l fun b hb => ?_
      have hab := hl b hb
      refine decide_eq_decide.mpr ⟨fun h => .inl h, fun h => ?_⟩
      rcases h with h | ⟨_, h⟩
      · exact h
      · exact absurd h (lt_asymm hab)
    have main : ∀ l : List (Fin n), l.Pairwise (· < ·) →
        stableSort (fun k k' => decide (x k' < x k)) l = stableSort (fun k k' => decide (Ahead x k k')) l := by
      intro l hl
      induction l with
      | nil => rfl
      | cons a l ih =>
        rw [List.pairwise_cons] at hl
        unfold stableSort
        rw [ih hl.2]
        exact ins a _ fun b hb => hl.1 b ((perm_stableSort _ l).mem_iff.mp hb)
    exact main _ (List.pairwise_lt_finRange n)
  have e : ∀ k, top x k = sortedFrom (fun k k' => decide (Ahead x k k')) k := by
    intro k
    unfold top sortedFrom
    rw [List.get_of_eq key]
    rfl
  have h := sortedFrom_noInversion (fun k k' => decide (Ahead x k k')) (fun k k' => decide (Ahead x k k'))
    (fun a b h => by simpa using ahead_asymm (by simpa using h)) (fun _ _ h => h)
    (fun a b c h h' => by
      simp only [decide_eq_false_iff_not] at h h' ⊢
      intro hac
      by_cases hb : a = b
      · subst hb; exact h' hac
      · rcases ahead_total (x := x) hb with g | g
        · exact h g
        · exact h' (ahead_trans g hac)) i j hij
  rw [← e, ← e] at h
  have h' : ¬ Ahead x (top x j) (top x i) := by simpa using h
  have hne : top x i ≠ top x j := fun g => (ne_of_lt hij) (sortedFrom_injective _ g)
  rcases ahead_total (x := x) hne with g | g
  · exact g
  · exact absurd g h'

/-- Whatever picks, each time, an entry not yet picked with none of those left ahead of it, picks the sorted order. -/
theorem top_unique {n : ℕ} (x : Fin n → EReal) (a : ℕ → Fin n) (k : ℕ) (hk : k ≤ n)
    (hnew : ∀ r < k, ∀ r' < r, a r' ≠ a r)
    (hbest : ∀ r < k, ∀ v, (∀ r' < r, a r' ≠ v) → ¬ Ahead x v (a r)) (r : ℕ) (hr : r < k) :
    a r = top x ⟨r, hr.trans_le hk⟩ := by
  induction r using Nat.strong_induction_on with
  | _ r ih =>
    -- the place at which the sorted order has `a r`
    obtain ⟨q, hq⟩ := sortedFrom_surjective (fun k k' => decide (x k' < x k)) (a r)
    have hq : top x q = a r := hq
    have hrq : r ≤ q.val := by
      by_contra hlt
      have hlt : q.val < r := by omega
      have := ih q.val hlt (hlt.trans hr)
      exact hnew r hr q.val hlt (this.trans hq)
    by_contra hne
    have hlt : (⟨r, hr.trans_le hk⟩ : Fin n) < q := by
      rcases lt_or_eq_of_le hrq with h | h
      · exact h
      · exact absurd (by rw [← hq]; congr 1; exact Fin.ext h.symm) hne
    have hah := top_ahead x hlt
    rw [hq] at hah
    refine hbest r hr _ (fun r' hr' e => ?_) hah
    have e' := ih r' hr' (hr'.trans hr)
    rw [e'] at e
    have := sortedFrom_injective _ e
    have := congrArg Fin.val this
    simp at this
    omega

/-- THE SEARCH. Rows of `n` lanes whose first `m` hold `x`, all above −∞, and whose other lanes hold nothing greater.
    Taking each time the first lane of the greatest entry, and striking it out, takes the first `m`'s sorted order. -/
theorem search {n m : ℕ} (hmn : m ≤ n) (x : Fin m → EReal) (y : ℕ → Fin n → EReal) (a : ℕ → Fin n)
    (h0 : ∀ v (hv : v < m), y 0 ⟨v, hv.trans_le hmn⟩ = x ⟨v, hv⟩)
    (hx : ∀ v, ⊥ < x v) (hpad : ∀ v : Fin n, m ≤ v.val → ∀ w, y 0 v ≤ x w)
    (hs : ∀ r v, y (r + 1) v = if v = a r then ⊥ else y r v)
    (hge : ∀ r v, y r v ≤ y r (a r)) (hfirst : ∀ r v, y r v = y r (a r) → a r ≤ v)
    (r : ℕ) (hr : r < m) :
    (a r).val = (top x ⟨r, hr⟩).val ∧ y r (a r) = x (top x ⟨r, hr⟩) := by
  classical
  have hy : ∀ r v, y r v = if ∃ r' < r, a r' = v then ⊥ else y 0 v := by
    intro r
    induction r with
    | zero => intro v; simp
    | succ r ih =>
      intro v
      rw [hs, ih]
      by_cases h : v = a r
      · rw [if_pos h, if_pos ⟨r, by omega, h.symm⟩]
      · rw [if_neg h]
        by_cases h' : ∃ r' < r, a r' = v
        · obtain ⟨r', h1, h2⟩ := h'
          rw [if_pos ⟨r', h1, h2⟩, if_pos ⟨r', by omega, h2⟩]
        · rw [if_neg h', if_neg]
          rintro ⟨r', h1, h2⟩
          rcases Nat.lt_succ_iff_lt_or_eq.mp h1 with h3 | h3
          · exact h' ⟨r', h3, h2⟩
          · exact h (h3 ▸ h2.symm)
  -- one of the first `m` lanes is left
  have hleft : ∀ r < m, ∃ v : Fin m, ∀ r' < r, a r' ≠ ⟨v.val, v.isLt.trans_le hmn⟩ := by
    intro r hr
    by_contra hc
    push Not at hc
    choose f hf hf' using hc
    have hinj : Function.Injective (fun v : Fin m => (⟨f v, hf v⟩ : Fin r)) := by
      intro v w hvw
      have : f v = f w := congrArg Fin.val hvw
      have h1 := hf' v
      rw [this, hf' w] at h1
      exact Fin.ext (congrArg Fin.val h1).symm
    have := Fintype.card_le_of_injective _ hinj
    simp at this
    omega
  have hnew' : ∀ r < m, ¬ ∃ r' < r, a r' = a r := by
    intro r hr hc
    obtain ⟨v, hv⟩ := hleft r hr
    have h1 := hge r ⟨v.val, v.isLt.trans_le hmn⟩
    rw [hy r (a r), if_pos hc, hy r, if_neg (by rintro ⟨r', h2, h3⟩; exact hv r' h2 h3), h0 v.val v.isLt] at h1
    exact absurd (hx v) (not_lt.mpr h1)
  have hya : ∀ r < m, y r (a r) = y 0 (a r) := fun r hr => by rw [hy r, if_neg (hnew' r hr)]
  have hlt : ∀ r < m, (a r).val < m := by
    intro r hr
    by_contra hc
    obtain ⟨v, hv⟩ := hleft r hr
    have h1 := hge r ⟨v.val, v.isLt.trans_le hmn⟩
    have h2 : y r ⟨v.val, v.isLt.trans_le hmn⟩ = x v := by
      rw [hy r, if_neg (by rintro ⟨r', h2, h3⟩; exact hv r' h2 h3), h0 v.val v.isLt]
    have h3 := hpad (a r) (by omega) v
    rw [h2, hya r hr] at h1
    have h4 := hfirst r ⟨v.val, v.isLt.trans_le hmn⟩ (by rw [h2, hya r hr]; exact le_antisymm h1 h3)
    have : (a r).val ≤ v.val := h4
    have := v.isLt
    omega
  let a' : ℕ → Fin m := fun q => if h : q < m then ⟨(a q).val, hlt q h⟩ else ⟨0, by omega⟩
  have ha' : ∀ q (h : q < m), a' q = ⟨(a q).val, hlt q h⟩ := fun q h => dif_pos h
  have hval : ∀ q (h : q < m), y q (a q) = x (a' q) := by
    intro q h
    rw [hya q h, ha' q h, ← h0 (a q).val (hlt q h)]
  have main := top_unique x a' m le_rfl
    (by
      intro q hq q' hq' e
      rw [ha' q hq, ha' q' (hq'.trans hq)] at e
      exact hnew' q hq ⟨q', hq', Fin.ext (Fin.mk.inj e)⟩)
    (by
      intro q hq v hv hah
      have hfree : ¬ ∃ r' < q, a r' = ⟨v.val, v.isLt.trans_le hmn⟩ := by
        rintro ⟨r', h1, h2⟩
        refine hv r' h1 ?_
        rw [ha' r' (h1.trans hq)]
        exact Fin.ext (show (a r').val = v.val by rw [h2])
      have h2 : y q ⟨v.val, v.isLt.trans_le hmn⟩ = x v := by rw [hy q, if_neg hfree, h0 v.val v.isLt]
      have h1 := hge q ⟨v.val, v.isLt.trans_le hmn⟩
      rw [h2, hval q hq] at h1
      rcases hah with h | ⟨h, h'⟩
      · exact absurd h (not_lt.mpr h1)
      · have h3 := hfirst q ⟨v.val, v.isLt.trans_le hmn⟩ (by rw [h2, hval q hq]; exact h)
        have h4 : (a q).val ≤ v.val := h3
        rw [ha' q hq] at h'
        have h5 : v.val < (a q).val := h'
        omega)
    r hr
  rw [ha' r hr] at main
  refine ⟨congrArg Fin.val main, ?_⟩
  rw [hval r hr, ha' r hr, main]

end Cert.Beam

end
-- ==== Proof.Fold.lean ====
module

public import proofs.«01_k».proof.Proof.Top
public import Idealize.ShloMosaic.PureOps.Reduce
public import Idealize.ShloMosaic.PureOps.Ideal
public import Idealize.ShloMosaic.Lib.WordCmp

/-! Reductions of a row read as mathematics: the greatest entry, the first lane that has it, and a sum with one term. -/

@[expose] public section

noncomputable section

namespace Cert.Beam

open Idealize.ShloMosaic

/-- The finite score of a token that is not allowed. -/
abbrev neg : EReal := Ideal.ofBits FTy.f32 0xE0AD78EC#32

theorem ofBits_bot : Ideal.ofBits FTy.f32 0xFF800000#32 = ⊥ := by simp [Ideal.ofBits, Ideal.ieee]
theorem ofBits_zero : Ideal.ofBits FTy.f32 0x00000000#32 = 0 := by simp [Ideal.ofBits, Ideal.ieee]
theorem neg_eq : neg = ((-100000002004087734272 : ℝ) : EReal) := by
  simp [neg, Ideal.ofBits, Ideal.ieee, -EReal.coe_mul]; norm_num
theorem bot_lt_neg : ⊥ < neg := by rw [neg_eq]; exact EReal.bot_lt_coe _

/-- The greatest entry of a row. -/
def rowMax {n : ℕ} (x : Fin n → EReal) : EReal := Finset.fold max ⊥ x Finset.univ

theorem rowMax_le {n : ℕ} (x : Fin n → EReal) (c : EReal) : rowMax x ≤ c ↔ ∀ v, x v ≤ c := by
  unfold rowMax
  rw [Finset.fold_max_le]
  simp

theorem le_rowMax {n : ℕ} (x : Fin n → EReal) (v : Fin n) : x v ≤ rowMax x := (rowMax_le x _).mp le_rfl v

theorem exists_first {n : ℕ} (hn : 0 < n) (x : Fin n → EReal) :
    ∃ a, (∀ v, x v ≤ x a) ∧ ∀ v, x v = x a → a ≤ v := by
  haveI : Nonempty (Fin n) := ⟨⟨0, hn⟩⟩
  obtain ⟨m, hm⟩ := Finite.exists_max x
  obtain ⟨a, ha, hmin⟩ := WellFounded.has_min (wellFounded_lt (α := Fin n)) {v | x v = x m} ⟨m, rfl⟩
  have ha : x a = x m := ha
  refine ⟨a, fun v => ha ▸ hm v, fun v hv => ?_⟩
  exact not_lt.mp (hmin v (hv.trans ha))

/-- The first lane at which a row takes its greatest entry. -/
def firstAt {n : ℕ} (hn : 0 < n) (x : Fin n → EReal) : Fin n := Classical.choose (exists_first hn x)

theorem le_firstAt {n : ℕ} (hn : 0 < n) (x : Fin n → EReal) (v : Fin n) : x v ≤ x (firstAt hn x) :=
  (Classical.choose_spec (exists_first hn x)).1 v
theorem firstAt_le {n : ℕ} (hn : 0 < n) (x : Fin n → EReal) (v : Fin n) (h : x v = x (firstAt hn x)) : firstAt hn x ≤ v :=
  (Classical.choose_spec (exists_first hn x)).2 v h
theorem rowMax_eq {n : ℕ} (hn : 0 < n) (x : Fin n → EReal) : rowMax x = x (firstAt hn x) :=
  le_antisymm ((rowMax_le x _).mpr (le_firstAt hn x)) (le_rowMax x _)

theorem minsi_toInt {w : ℕ} (a b : BitVec w) : (IntOp.minsi a b).toInt = min a.toInt b.toInt := by
  unfold IntOp.minsi
  rw [BitVec.slt_eq_decide]
  by_cases h : a.toInt < b.toInt
  · simp [h, le_of_lt h]
  · simp [h, not_lt.mp h]

theorem ofNat_toInt (a : ℕ) (h : a < 2 ^ 31) : (BitVec.ofNat 32 a).toInt = a := by
  rw [BitVec.toInt_eq_toNat_of_lt]
  · simp; omega
  · simp; omega

/-- The least of the numbers of the lanes with the greatest entry is the first such lane. -/
theorem fold_first {n : ℕ} (hn : 0 < n) (hn' : n < 2 ^ 31) (x : Fin n → EReal) (m : EReal) (hm : m = rowMax x) (N : ℕ) (hN : n ≤ N) (hN' : N < 2 ^ 31) :
    Finset.fold IntOp.minsi (2147483647#32) (fun v : Fin n => if x v = m then BitVec.ofNat 32 v.val else BitVec.ofNat 32 N) Finset.univ
      = BitVec.ofNat 32 (firstAt hn x).val := by
  subst hm
  apply BitVec.eq_of_toInt_eq
  rw [← Finset.fold_hom (op' := min) (m := BitVec.toInt) minsi_toInt]
  rw [ofNat_toInt _ ((firstAt hn x).isLt.trans hn')]
  apply le_antisymm
  · rw [Finset.fold_min_le]
    refine .inr ⟨firstAt hn x, Finset.mem_univ _, ?_⟩
    rw [if_pos (rowMax_eq hn x).symm, ofNat_toInt _ ((firstAt hn x).isLt.trans hn')]
  · rw [Finset.le_fold_min]
    have h1 := (firstAt hn x).isLt
    constructor
    · have : (2147483647#32 : BitVec 32).toInt = 2147483647 := by decide
      rw [this]; omega
    · intro v _
      by_cases hv : x v = rowMax x
      · rw [if_pos hv, ofNat_toInt _ (v.isLt.trans hn')]
        have : (firstAt hn x).val ≤ v.val := firstAt_le hn x v (hv.trans (rowMax_eq hn x))
        exact_mod_cast this
      · rw [if_neg hv, ofNat_toInt _ hN']; omega

theorem sel_eq {α : Type} (w : ℕ) (a b : BitVec w) (x y : α) : Scalar.select (IntOp.cmpi .eq a b) x y = if a = b then x else y := by
  by_cases h : a = b
  · simp [IntOp.cmpi, Scalar.select, h]
  · have : (a == b) = false := beq_eq_false_iff_ne.mpr h
    simp only [IntOp.cmpi, Scalar.select, this, if_neg h]
    exact if_neg (by decide)

theorem ofNat_inj {a b : ℕ} (ha : a < 2 ^ 32) (hb : b < 2 ^ 32) : BitVec.ofNat 32 a = BitVec.ofNat 32 b ↔ a = b := by
  constructor
  · intro h
    have := congrArg BitVec.toNat h
    simp at this
    omega
  · rintro rfl; rfl

theorem sel_ofNat {α : Type} (a b : ℕ) (ha : a < 2 ^ 32) (hb : b < 2 ^ 32) (x y : α) :
    Scalar.select (IntOp.cmpi .eq (BitVec.ofNat 32 a) (BitVec.ofNat 32 b)) x y = if a = b then x else y := by
  rw [sel_eq]
  exact if_congr (ofNat_inj ha hb) rfl rfl

/-- A sum of words with one term. -/
theorem fold_one {n : ℕ} (hn' : n < 2 ^ 31) (a : Fin n) (g : Fin n → BitVec 32) :
    Finset.fold IntOp.addi (0#32) (fun v : Fin n => Scalar.select (IntOp.cmpi .eq (BitVec.ofNat 32 v.val) (BitVec.ofNat 32 a.val)) (g v) 0#32) Finset.univ = g a := by
  classical
  have e : (fun v : Fin n => Scalar.select (IntOp.cmpi .eq (BitVec.ofNat 32 v.val) (BitVec.ofNat 32 a.val)) (g v) 0#32)
      = fun v => if v = a then g v else 0#32 := by
    funext v
    rw [sel_ofNat _ _ (by omega) (by omega)]
    exact if_congr Fin.val_inj rfl rfl
  rw [e]
  have h0 : ∀ s : Finset (Fin n), a ∉ s → Finset.fold IntOp.addi (0#32) (fun v : Fin n => if v = a then g v else 0#32) s = 0#32 := by
    intro s
    induction s using Finset.induction with
    | empty => intro _; rfl
    | insert b s hb ih =>
      intro h
      rw [Finset.fold_insert hb, ih (fun h' => h (Finset.mem_insert_of_mem h')), if_neg (by rintro rfl; exact h (Finset.mem_insert_self _ _))]
      rfl
  rw [← Finset.insert_erase (Finset.mem_univ a), Finset.fold_insert (Finset.notMem_erase a _), if_pos rfl, h0 _ (Finset.notMem_erase a _)]
  simp [IntOp.addi]

/-- A sum weighted by a one-hot row is the entry the row points at. -/
theorem sum_onehot {n : ℕ} (hn' : n < 2 ^ 31) (a : ℕ) (ha : a < n) (g : Fin n → EReal) :
    (∑ v : Fin n, (FloatOps.sitofp (F := Ideal) FTy.f32 (BitVec.setWidth 32 (IntOp.cmpi .eq (BitVec.ofNat 32 a) (BitVec.ofNat 32 v.val))) : EReal) * g v) = g ⟨a, ha⟩ := by
  rw [Finset.sum_eq_single ⟨a, ha⟩]
  · have : IntOp.cmpi CmpIPredicate.eq (BitVec.ofNat 32 a) (BitVec.ofNat 32 a) = 1#1 := by simp [IntOp.cmpi]
    simp only [this]
    have h1 : (FloatOps.sitofp (F := Ideal) FTy.f32 (BitVec.setWidth 32 (1#1)) : EReal) = 1 := by
      show (((BitVec.setWidth 32 (1#1)).toInt : ℝ) : EReal) = 1
      have : (BitVec.setWidth 32 (1#1)).toInt = 1 := by decide
      rw [this]; simp
    rw [h1, one_mul]
  · intro v _ hv
    have hne : a ≠ v.val := fun h => hv (Fin.ext h.symm)
    have : IntOp.cmpi CmpIPredicate.eq (BitVec.ofNat 32 a) (BitVec.ofNat 32 v.val) = 0#1 := by
      have : ¬ BitVec.ofNat 32 a = BitVec.ofNat 32 v.val := by rw [ofNat_inj (by omega) (by omega)]; exact hne
      simp only [IntOp.cmpi, beq_eq_false_iff_ne.mpr this, BitVec.ofBool_false]; rfl
    simp only [this]
    have h1 : (FloatOps.sitofp (F := Ideal) FTy.f32 (BitVec.setWidth 32 (0#1)) : EReal) = 0 := by
      show (((BitVec.setWidth 32 (0#1)).toInt : ℝ) : EReal) = 0
      have : (BitVec.setWidth 32 (0#1)).toInt = 0 := by decide
      rw [this]; simp
    rw [h1, zero_mul]
  · intro h; exact absurd (Finset.mem_univ _) h

/-- Lanes past the first `m` that hold −∞ do not count in the greatest entry. -/
theorem rowMax_pad {n m : ℕ} (hmn : m ≤ n) (y : Fin n → EReal) (x : Fin m → EReal)
    (hx : ∀ v (hv : v < m), y ⟨v, hv.trans_le hmn⟩ = x ⟨v, hv⟩) (hp : ∀ v : Fin n, m ≤ v.val → y v = ⊥) : rowMax y = rowMax x := by
  apply le_antisymm
  · rw [rowMax_le]
    intro v
    by_cases h : v.val < m
    · rw [show v = ⟨v.val, h.trans_le hmn⟩ from rfl, hx _ h]; exact le_rowMax _ _
    · rw [hp v (by omega)]; exact bot_le
  · rw [rowMax_le]
    intro v
    rw [show v = ⟨v.val, v.isLt⟩ from rfl, ← hx v.val v.isLt]; exact le_rowMax _ _

/-- Lanes past the first `m` that hold zero do not count in a sum. -/
theorem sum_pad {n m : ℕ} (hmn : m ≤ n) (y : Fin n → EReal) (x : Fin m → EReal)
    (hx : ∀ v (hv : v < m), y ⟨v, hv.trans_le hmn⟩ = x ⟨v, hv⟩) (hp : ∀ v : Fin n, m ≤ v.val → y v = 0) : ∑ v, y v = ∑ v, x v := by
  obtain ⟨k, rfl⟩ := Nat.exists_eq_add_of_le hmn
  rw [Fin.sum_univ_add]
  have h2 : ∑ i : Fin k, y (Fin.natAdd m i) = 0 := Finset.sum_eq_zero fun i _ => hp _ (by simp)
  rw [h2, add_zero]
  exact Finset.sum_congr rfl fun v _ => hx v.val v.isLt

end Cert.Beam

end
-- ==== Proof.Spec.lean ====
module

public import proofs.«01_k».proof.Proof.Fold

/-! The beam search itself, on plain functions: one step, and what it keeps. -/

@[expose] public section

noncomputable section

namespace Cert.Beam

open Idealize.ShloMosaic

/-- The log-probabilities of a row of logits. -/
def lsm {n : ℕ} (z : Fin n → EReal) (v : Fin n) : EReal :=
  z v - rowMax z - Ideal.log (∑ x, Ideal.exp (z x - rowMax z))

/-- What the search is given. -/
structure Given where
  /-- the image features -/
  feat : Fin 16 → Fin 1024 → EReal
  /-- the first tokens -/
  sp : Fin 16 → Fin 1000
  /-- the first hidden rows -/
  h0 : Fin 16 → Fin 1024 → EReal
  /-- the tokens allowed from a state to a state -/
  ok : Fin 16 → Fin 4 → Fin 4 → Fin 1000 → Prop
  /-- the embedding -/
  E : Fin 1000 → Fin 1024 → EReal
  /-- the recurrent weights -/
  Wh : Fin 1024 → Fin 1024 → EReal
  /-- the feature weights -/
  Wf : Fin 1024 → Fin 1024 → EReal
  /-- the output weights -/
  Wo : Fin 1024 → Fin 1000 → EReal
  /-- the output weights are of bounded size -/
  bound : ∀ k v, -((1000000000000000 : ℝ) : EReal) ≤ Wo k v ∧ Wo k v ≤ ((1000000000000000 : ℝ) : EReal)

/-- A beam set: tokens, scores and hidden rows. -/
structure Beams where
  /-- the last tokens -/
  tok : Fin 16 → Fin 20 → Fin 1000
  /-- the scores -/
  lp : Fin 16 → Fin 20 → EReal
  /-- the hidden rows -/
  h : Fin 16 → Fin 20 → Fin 1024 → EReal

open Classical in
/-- A score where it is allowed. -/
def allow (p : Prop) (x : EReal) : EReal := if p then x else neg

variable (G : Given)

/-- A new hidden entry, from a hidden row and a token. -/
def cell (b : Fin 16) (h : Fin 1024 → EReal) (t : Fin 1000) (l : Fin 1024) : EReal :=
  Ideal.tanh ((∑ x, h x * G.Wh x l) + G.E t l + ∑ x, G.feat b x * G.Wf x l)
/-- The logits of a hidden row. -/
def logit (h : Fin 1024 → EReal) (v : Fin 1000) : EReal := ∑ x, h x * G.Wo x v

/-- The first step's hidden rows. -/
def first (b : Fin 16) (l : Fin 1024) : EReal := cell G b (G.h0 b) (G.sp b) l
/-- The first step's scores into state `s`. -/
def sc0 (b : Fin 16) (s : Fin 4) (v : Fin 1000) : EReal := allow (G.ok b 0 s v) (lsm (logit G (first G b)) v)

/-- The first five beams of each state. -/
def beams0 : Beams where
  tok b j := top (sc0 G b ⟨j.val / 5, by omega⟩) ⟨j.val % 5, by omega⟩
  lp b j := sc0 G b ⟨j.val / 5, by omega⟩ (top (sc0 G b ⟨j.val / 5, by omega⟩) ⟨j.val % 5, by omega⟩)
  h b _ := first G b

variable (B : Beams)

/-- The hidden rows after a step, before the beams are chosen. -/
def hid (b : Fin 16) (j : Fin 20) (l : Fin 1024) : EReal := cell G b (B.h b j) (B.tok b j) l
/-- The log-probabilities, a finished beam's replaced. -/
def clean (b : Fin 16) (j : Fin 20) (v : Fin 1000) : EReal :=
  if (B.tok b j).val = 2 then (if v.val = 2 then 0 else neg) else lsm (logit G (hid G B b j)) v
/-- The scores into state `s`. -/
def sc (s : Fin 4) (b : Fin 16) (j : Fin 20) (v : Fin 1000) : EReal :=
  allow (G.ok b ⟨j.val / 5, by omega⟩ s v) (clean G B b j v)
/-- The five best tokens. -/
def best (s : Fin 4) (b : Fin 16) (j : Fin 20) (k : Fin 5) : Fin 1000 := top (sc G B s b j) ⟨k.val, by omega⟩
/-- The candidates' scores, beam by beam. -/
def cand (s : Fin 4) (b : Fin 16) (q : Fin 100) : EReal :=
  sc G B s b ⟨q.val / 5, by omega⟩ (best G B s b ⟨q.val / 5, by omega⟩ ⟨q.val % 5, by omega⟩) + B.lp b ⟨q.val / 5, by omega⟩
/-- The chosen candidates. -/
def pick (b : Fin 16) (j : Fin 20) : Fin 100 := top (cand G B ⟨j.val / 5, by omega⟩ b) ⟨j.val % 5, by omega⟩
/-- The beam a new beam comes from. -/
def par (b : Fin 16) (j : Fin 20) : Fin 20 := ⟨(pick G B b j).val / 5, by omega⟩

/-- One step of the search. -/
def next : Beams where
  tok b j := best G B ⟨j.val / 5, by omega⟩ b (par G B b j) ⟨(pick G B b j).val % 5, by omega⟩
  lp b j := cand G B ⟨j.val / 5, by omega⟩ b (pick G B b j)
  h b j := hid G B b (par G B b j)

/-- The beams after `n` steps. -/
def beams : ℕ → Beams
  | 0 => beams0 G
  | n + 1 => next G (beams n)

/-- Every beam's tokens so far. -/
def hist (b : Fin 16) : ℕ → Fin 20 → Fin 12 → Fin 1000
  | 0, j, _ => (beams G 0).tok b j
  | n + 1, j, t => if t.val = n + 1 then (beams G (n + 1)).tok b j else hist b n (par G (beams G n) b j) t

/-- The beam at step `11 - n` that the final beam `j` continues. -/
def from' (b : Fin 16) (j : Fin 20) : ℕ → Fin 20
  | 0 => j
  | n + 1 => par G (beams G (10 - n)) b (from' b j n)

theorem hist_last (b : Fin 16) (n : ℕ) (hn : n < 12) (j : Fin 20) : hist G b n j ⟨n, hn⟩ = (beams G n).tok b j := by
  cases n with
  | zero => rfl
  | succ n => unfold hist; simp

theorem hist_back (b : Fin 16) (j : Fin 20) (t : Fin 12) (n : ℕ) (hn : n ≤ 11) (ht : t.val ≤ 11 - n) :
    hist G b 11 j t = hist G b (11 - n) (from' G b j n) t := by
  induction n with
  | zero => rfl
  | succ n ih =>
    rw [ih (by omega) (by omega)]
    have e : 11 - n = (10 - n) + 1 := by omega
    have e' : 11 - (n + 1) = 10 - n := by omega
    rw [e, e']
    conv_lhs => unfold hist
    rw [if_neg (by omega)]
    rfl

/-- The final history of a beam, read off the steps it goes back through. -/
theorem hist_eq (b : Fin 16) (j : Fin 20) (n : ℕ) (hn : n ≤ 11) :
    hist G b 11 j ⟨11 - n, by omega⟩ = (beams G (11 - n)).tok b (from' G b j n) := by
  rw [hist_back G b j _ n hn le_rfl, hist_last]

end Cert.Beam

end
-- ==== Proof.Bound.lean ====
module

public import proofs.«01_k».proof.Proof.Spec

/-! The scores stay above the score of a token that is not allowed. -/

@[expose] public section

noncomputable section

namespace Cert.Beam

open Idealize.ShloMosaic

theorem tanh_bound (x : EReal) : ∃ r : ℝ, Ideal.tanh x = (r : EReal) ∧ |r| ≤ 1 := by
  induction x with
  | bot => exact ⟨-1, by simp, by simp⟩
  | top => exact ⟨1, by simp, by simp⟩
  | coe r => exact ⟨Real.tanh r, rfl, abs_le.mpr ⟨(Real.neg_one_lt_tanh r).le, (Real.tanh_lt_one r).le⟩⟩

theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

theorem sum_real {n : ℕ} (f : Fin n → EReal) (C : ℝ) (h : ∀ i, ∃ r : ℝ, f i = (r : EReal) ∧ |r| ≤ C) :
    ∃ r : ℝ, ∑ i, f i = (r : EReal) ∧ |r| ≤ n * C := by
  choose g hg hC using h
  refine ⟨∑ i, g i, ?_, ?_⟩
  · rw [← coe_sum]
    exact Finset.sum_congr rfl fun i _ => hg i
  · refine (Finset.abs_sum_le_sum_abs _ _).trans ((Finset.sum_le_sum fun i _ => hC i).trans ?_)
    simp

variable (G : Given)

theorem weight_real (k : Fin 1024) (v : Fin 1000) : ∃ r : ℝ, G.Wo k v = (r : EReal) ∧ |r| ≤ 1000000000000000 := by
  obtain ⟨h1, h2⟩ := G.bound k v
  generalize G.Wo k v = w at h1 h2
  induction w with
  | bot => rw [← EReal.coe_neg] at h1; exact absurd h1 (not_le.mpr (EReal.bot_lt_coe _))
  | top => exact absurd h2 (not_le.mpr (EReal.coe_lt_top _))
  | coe r =>
    rw [← EReal.coe_neg] at h1
    exact ⟨r, rfl, abs_le.mpr ⟨EReal.coe_le_coe_iff.mp h1, EReal.coe_le_coe_iff.mp h2⟩⟩

/-- The logits are real and bounded. -/
theorem logit_real (h : Fin 1024 → EReal) (hh : ∀ l, ∃ r : ℝ, h l = (r : EReal) ∧ |r| ≤ 1) (v : Fin 1000) :
    ∃ r : ℝ, logit G h v = (r : EReal) ∧ |r| ≤ 1024 * 1000000000000000 := by
  refine sum_real _ 1000000000000000 fun x => ?_
  obtain ⟨r, hr, hr'⟩ := hh x
  obtain ⟨w, hw, hw'⟩ := weight_real G x v
  refine ⟨r * w, by rw [hr, hw, EReal.coe_mul], ?_⟩
  rw [abs_mul]
  calc |r| * |w| ≤ 1 * 1000000000000000 := mul_le_mul hr' hw' (abs_nonneg _) (by norm_num)
    _ = _ := one_mul _

/-- The log-probabilities of bounded logits are above `neg`. -/
theorem neg_le_lsm (z : Fin 1000 → EReal) (hz : ∀ v, ∃ r : ℝ, z v = (r : EReal) ∧ |r| ≤ 1024 * 1000000000000000) (v : Fin 1000) :
    neg ≤ lsm z v := by
  choose g hg hC using hz
  obtain ⟨M, hM, hM'⟩ : ∃ a, rowMax z = (g a : EReal) ∧ ∀ v, g v ≤ g a := by
    refine ⟨firstAt (by norm_num) z, by rw [rowMax_eq (by norm_num), hg], fun v => ?_⟩
    have := le_firstAt (by norm_num) z v
    rw [hg, hg] at this
    exact EReal.coe_le_coe_iff.mp this
  unfold lsm
  simp only [hM', hg]
  have e : ∀ x, Ideal.exp ((g x : EReal) - (g M : EReal)) = ((Real.exp (g x - g M) : ℝ) : EReal) := by
    intro x; rw [← EReal.coe_sub]; rfl
  rw [hM]
  simp only [e]
  rw [coe_sum, ← EReal.coe_sub, Ideal.log_coe]
  have hpos : ∀ x, 0 < Real.exp (g x - g M) := fun x => Real.exp_pos _
  have hsum : 0 < ∑ x, Real.exp (g x - g M) := Finset.sum_pos (fun x _ => hpos x) ⟨v, Finset.mem_univ _⟩
  rw [if_neg (not_le.mpr hsum), ← EReal.coe_sub, neg_eq, EReal.coe_le_coe_iff]
  have hle : ∑ x, Real.exp (g x - g M) ≤ 1000 := by
    calc ∑ x, Real.exp (g x - g M) ≤ ∑ _x : Fin 1000, (1 : ℝ) :=
          Finset.sum_le_sum fun x _ => Real.exp_le_one_iff.mpr (sub_nonpos.mpr (hM' x))
      _ = 1000 := by simp
  have hlog : Real.log (∑ x, Real.exp (g x - g M)) ≤ 1000 :=
    (Real.log_le_sub_one_of_pos hsum).trans (by linarith)
  have h1 := abs_le.mp (hC v)
  have h2 := abs_le.mp (hC M)
  linarith [h1.1, h1.2, h2.1, h2.2]

theorem neg_le_allow (p : Prop) (x : EReal) (h : neg ≤ x) : neg ≤ allow p x := by
  unfold allow; split
  · exact h
  · exact le_rfl

theorem first_real (b : Fin 16) (l : Fin 1024) : ∃ r : ℝ, first G b l = (r : EReal) ∧ |r| ≤ 1 := tanh_bound _

theorem neg_le_sc0 (b : Fin 16) (s : Fin 4) (v : Fin 1000) : neg ≤ sc0 G b s v :=
  neg_le_allow _ _ (neg_le_lsm _ (logit_real G _ (first_real G b)) v)

theorem neg_le_zero : neg ≤ 0 := by
  rw [neg_eq, ← EReal.coe_zero, EReal.coe_le_coe_iff]; norm_num

theorem neg_le_clean (B : Beams) (b : Fin 16) (j : Fin 20) (v : Fin 1000) : neg ≤ clean G B b j v := by
  unfold clean
  split
  · split
    · exact neg_le_zero
    · exact le_rfl
  · exact neg_le_lsm _ (logit_real G _ fun l => tanh_bound _) v

theorem neg_le_sc (B : Beams) (s : Fin 4) (b : Fin 16) (j : Fin 20) (v : Fin 1000) : neg ≤ sc G B s b j v :=
  neg_le_allow _ _ (neg_le_clean G B b j v)

theorem bot_lt_sc (B : Beams) (s : Fin 4) (b : Fin 16) (j : Fin 20) (v : Fin 1000) : ⊥ < sc G B s b j v :=
  bot_lt_neg.trans_le (neg_le_sc G B s b j v)

theorem bot_lt_cand (B : Beams) (hB : ∀ b j, ⊥ < B.lp b j) (s : Fin 4) (b : Fin 16) (q : Fin 100) : ⊥ < cand G B s b q :=
  EReal.bot_lt_add_iff.mpr ⟨bot_lt_sc G B _ _ _ _, hB _ _⟩

theorem bot_lt_lp (n : ℕ) : ∀ b j, ⊥ < (beams G n).lp b j := by
  induction n with
  | zero => intro b j; exact bot_lt_neg.trans_le (neg_le_sc0 G _ _ _)
  | succ n ih => intro b j; exact bot_lt_cand G _ ih _ _ _

/-- Lanes past the vocabulary that hold −∞ do not count in the log-probabilities. -/
theorem lsm_pad (y : Fin 1024 → EReal) (z : Fin 1000 → EReal)
    (hx : ∀ v (hv : v < 1000), y ⟨v, hv.trans_le (by norm_num)⟩ = z ⟨v, hv⟩) (hp : ∀ v : Fin 1024, 1000 ≤ v.val → y v = ⊥)
    (v : Fin 1000) : lsm y ⟨v.val, v.isLt.trans_le (by norm_num)⟩ = lsm z v := by
  unfold lsm
  rw [rowMax_pad (by norm_num) y z hx hp, hx v.val v.isLt,
    sum_pad (by norm_num) (fun x => Ideal.exp (y x - rowMax z)) (fun x => Ideal.exp (z x - rowMax z))
      (fun v hv => by simp only [hx v hv]) (fun v hv => by simp only [hp v hv, EReal.bot_sub]; rfl)]

end Cert.Beam

end
-- ==== Proof.KernelSearch.lean ====
module

public import proofs.«01_k».proof.Proof.Model
public import proofs.«01_k».proof.Proof.Bound
public import Idealize.ShloMosaic.Lib.Pointwise

/-! The kernel's searches, read at an element. -/

@[expose] public section

set_option maxRecDepth 16384

noncomputable section

namespace Cert.Beam

open Idealize.ShloMosaic Idealize.SL.Sem Cert.KernelIdeal Cert.KernelIdeal.Gen

/-- One beam row. -/
abbrev row3 (x : FVec Ideal S16x24x1024 .f32) (b : Fin 16) (j : Fin 24) (v : Fin 1024) : EReal := x (ix3 b j v)

theorem max3_at (x : FVec Ideal S16x24x1024 .f32) (b : Fin 16) (j : Fin 24) (z : Fin 1) : max3 x (ix3 b j z) = rowMax (row3 x b j) := by
  pointwise [max3]
  rw [ofBits_bot]; rfl

theorem arg3_at (x : FVec Ideal S16x24x1024 .f32) (b : Fin 16) (j : Fin 24) (z : Fin 1) :
    arg3 x (ix3 b j z) = BitVec.ofNat 32 (firstAt (by norm_num) (row3 x b j)).val := by
  pointwise [arg3]
  exact fold_first (by norm_num) (by norm_num) (row3 x b j) _ (max3_at x b j 0) 1024 (by norm_num) (by norm_num)

theorem drop3_at (x : FVec Ideal S16x24x1024 .f32) (b : Fin 16) (j : Fin 24) (v : Fin 1024) :
    drop3 x (ix3 b j v) = if v = firstAt (by norm_num) (row3 x b j) then ⊥ else x (ix3 b j v) := by
  pointwise [drop3]
  rw [arg3_at, sel_ofNat _ _ (by omega) (by omega), ofBits_bot]
  exact if_congr Fin.val_inj rfl rfl

/-- The lane found by the `r`-th search of a beam row. -/
def lane (x : FVec Ideal S16x24x1024 .f32) (b : Fin 16) (j : Fin 24) (r : ℕ) : Fin 1024 := firstAt (by norm_num) (row3 (rows3 x r) b j)

/-- The searches of a beam row find its vocabulary part's sorted order. -/
theorem rows3_search (x : FVec Ideal S16x24x1024 .f32) (b : Fin 16) (j : Fin 24) (y : Fin 1000 → EReal)
    (hx : ∀ v (hv : v < 1000), x (ix3 b j ⟨v, by omega⟩) = y ⟨v, hv⟩) (hy : ∀ v, neg ≤ y v)
    (hp : ∀ v : Fin 1024, 1000 ≤ v.val → x (ix3 b j v) = neg) (r : ℕ) (hr : r < 1000) (z : Fin 1) :
    arg3 (rows3 x r) (ix3 b j z) = BitVec.ofNat 32 (top y ⟨r, hr⟩).val ∧ max3 (rows3 x r) (ix3 b j z) = y (top y ⟨r, hr⟩) := by
  have h := search (n := 1024) (m := 1000) (by norm_num) y (fun r => row3 (rows3 x r) b j) (lane x b j)
    (fun v hv => hx v hv) (fun v => bot_lt_neg.trans_le (hy v)) (fun v hv w => (hp v hv).le.trans (hy w))
    (fun r v => drop3_at _ _ _ _) (fun r v => le_firstAt _ _ v) (fun r v h => firstAt_le _ _ v h) r hr
  refine ⟨?_, ?_⟩
  · rw [arg3_at]; exact congrArg (BitVec.ofNat 32) h.1
  · rw [max3_at, rowMax_eq (by norm_num)]; exact h.2

/-- One batch row. -/
abbrev row2 (x : FVec Ideal S16x1024 .f32) (b : Fin 16) (v : Fin 1024) : EReal := x (ix2 b v)

theorem max2_at (x : FVec Ideal S16x1024 .f32) (b : Fin 16) (z : Fin 1) : max2 x (ix2 b z) = rowMax (row2 x b) := by
  pointwise [max2]
  rw [ofBits_bot]; rfl

theorem arg2_at (x : FVec Ideal S16x1024 .f32) (b : Fin 16) (z : Fin 1) :
    arg2 x (ix2 b z) = BitVec.ofNat 32 (firstAt (by norm_num) (row2 x b)).val := by
  pointwise [arg2]
  exact fold_first (by norm_num) (by norm_num) (row2 x b) _ (max2_at x b 0) 1024 (by norm_num) (by norm_num)

theorem drop2_at (x : FVec Ideal S16x1024 .f32) (b : Fin 16) (v : Fin 1024) :
    drop2 x (ix2 b v) = if v = firstAt (by norm_num) (row2 x b) then ⊥ else x (ix2 b v) := by
  pointwise [drop2]
  rw [arg2_at, sel_ofNat _ _ (by omega) (by omega), ofBits_bot]
  exact if_congr Fin.val_inj rfl rfl

/-- The searches of a batch row find its vocabulary part's sorted order. -/
theorem rows2_search (x : FVec Ideal S16x1024 .f32) (b : Fin 16) (y : Fin 1000 → EReal)
    (hx : ∀ v (hv : v < 1000), x (ix2 b ⟨v, by omega⟩) = y ⟨v, hv⟩) (hy : ∀ v, neg ≤ y v)
    (hp : ∀ v : Fin 1024, 1000 ≤ v.val → x (ix2 b v) = ⊥) (r : ℕ) (hr : r < 1000) (z : Fin 1) :
    arg2 (rows2 x r) (ix2 b z) = BitVec.ofNat 32 (top y ⟨r, hr⟩).val ∧ max2 (rows2 x r) (ix2 b z) = y (top y ⟨r, hr⟩) := by
  have h := search (n := 1024) (m := 1000) (by norm_num) y (fun r => row2 (rows2 x r) b) (fun r => firstAt (by norm_num) (row2 (rows2 x r) b))
    (fun v hv => hx v hv) (fun v => bot_lt_neg.trans_le (hy v)) (fun v hv w => (hp v hv).le.trans bot_le)
    (fun r v => drop2_at _ _ _) (fun r v => le_firstAt _ _ v) (fun r v h => firstAt_le _ _ v h) r hr
  refine ⟨?_, ?_⟩
  · rw [arg2_at]; exact congrArg (BitVec.ofNat 32) h.1
  · rw [max2_at, rowMax_eq (by norm_num)]; exact h.2

/-! ## The choice among a state's candidates -/

/-- One batch row's candidates, beam by beam. -/
def flat (x : FVec Ideal S16x24x5 .f32) (b : Fin 16) (q : Fin 120) : EReal := x (ix3 b ⟨q.val / 5, by omega⟩ ⟨q.val % 5, by omega⟩)

/-- Where a batch row's greatest candidate stands first. -/
def spot (x : FVec Ideal S16x24x5 .f32) (b : Fin 16) : Fin 120 := firstAt (by norm_num) (flat x b)

theorem bestK_at (x : FVec Ideal S16x24x5 .f32) (b : Fin 16) (j : Fin 24) : bestK x (ix2 b j) = rowMax fun k : Fin 5 => x (ix3 b j k) := by
  pointwise [bestK]
  rw [ofBits_bot]; rfl

theorem argK_at (x : FVec Ideal S16x24x5 .f32) (b : Fin 16) (j : Fin 24) :
    argK x (ix2 b j) = BitVec.ofNat 32 (firstAt (by norm_num) fun k : Fin 5 => x (ix3 b j k)).val := by
  pointwise [argK]
  exact fold_first (by norm_num) (by norm_num) (fun k : Fin 5 => x (ix3 b j k)) _ (bestK_at x b j) 5 (by norm_num) (by norm_num)

theorem bestJ_row (x : FVec Ideal S16x24x5 .f32) (b : Fin 16) (z : Fin 1) : bestJ x (ix2 b z) = rowMax fun j : Fin 24 => bestK x (ix2 b j) := by
  pointwise [bestJ]
  rw [ofBits_bot]; rfl

theorem argJ_row (x : FVec Ideal S16x24x5 .f32) (b : Fin 16) (z : Fin 1) :
    argJ x (ix2 b z) = BitVec.ofNat 32 (firstAt (by norm_num) fun j : Fin 24 => bestK x (ix2 b j)).val := by
  pointwise [argJ]
  exact fold_first (by norm_num) (by norm_num) (fun j : Fin 24 => bestK x (ix2 b j)) _ (bestJ_row x b 0) 24 (by norm_num) (by norm_num)

theorem flat_mk (x : FVec Ideal S16x24x5 .f32) (b : Fin 16) (j : Fin 24) (k : Fin 5) : x (ix3 b j k) = flat x b ⟨j.val * 5 + k.val, by omega⟩ := by
  unfold flat
  congr 2 <;> exact Fin.ext (by simp; omega)

/-- The greatest candidate is in the first beam whose best is greatest, and first in it. -/
theorem spot_split (x : FVec Ideal S16x24x5 .f32) (b : Fin 16) :
    (firstAt (by norm_num) fun j : Fin 24 => bestK x (ix2 b j)).val = (spot x b).val / 5
    ∧ (firstAt (by norm_num) fun k : Fin 5 => x (ix3 b ⟨(spot x b).val / 5, by omega⟩ k)).val = (spot x b).val % 5
    ∧ (rowMax fun j : Fin 24 => bestK x (ix2 b j)) = flat x b (spot x b) := by
  set p := spot x b with hp
  have hge : ∀ q, flat x b q ≤ flat x b p := le_firstAt _ _
  have hfirst : ∀ q, flat x b q = flat x b p → p ≤ q := firstAt_le _ _
  have hbest : ∀ j, bestK x (ix2 b j) ≤ flat x b p := by
    intro j; rw [bestK_at, rowMax_le]; intro k; rw [flat_mk x b]; exact hge _
  have hpp : x (ix3 b ⟨p.val / 5, by omega⟩ ⟨p.val % 5, by omega⟩) = flat x b p := rfl
  have hat : bestK x (ix2 b ⟨p.val / 5, by omega⟩) = flat x b p := by
    apply le_antisymm (hbest _)
    rw [bestK_at, ← hpp]
    exact le_rowMax (fun k : Fin 5 => x (ix3 b ⟨p.val / 5, by omega⟩ k)) ⟨p.val % 5, by omega⟩
  have hmax : (rowMax fun j : Fin 24 => bestK x (ix2 b j)) = flat x b p := by
    apply le_antisymm
    · rw [rowMax_le]; exact hbest
    · rw [← hat]; exact le_rowMax (fun j : Fin 24 => bestK x (ix2 b j)) _
  refine ⟨?_, ?_, hmax⟩
  · apply le_antisymm
    · have := firstAt_le (by norm_num) (fun j : Fin 24 => bestK x (ix2 b j)) ⟨p.val / 5, by omega⟩ (hat.trans (hmax.symm.trans (rowMax_eq (by norm_num) _)))
      exact this
    · set f := firstAt (by norm_num) fun j : Fin 24 => bestK x (ix2 b j) with hf
      have h1 : bestK x (ix2 b f) = flat x b p := by rw [← hmax, rowMax_eq (by norm_num)]
      rw [bestK_at, rowMax_eq (by norm_num), flat_mk x b] at h1
      have h2 : p.val ≤ f.val * 5 + _ := hfirst _ h1
      have := (firstAt (by norm_num) fun k : Fin 5 => x (ix3 b f k)).isLt
      omega
  · set g := firstAt (by norm_num) fun k : Fin 5 => x (ix3 b ⟨p.val / 5, by omega⟩ k) with hg
    have hm : x (ix3 b ⟨p.val / 5, by omega⟩ g) = flat x b p := by
      rw [← hat, bestK_at, rowMax_eq (by norm_num)]
    apply le_antisymm
    · have := firstAt_le (by norm_num) (fun k : Fin 5 => x (ix3 b ⟨p.val / 5, by omega⟩ k)) ⟨p.val % 5, by omega⟩ (by rw [hpp]; exact hm.symm)
      exact this
    · rw [flat_mk x b] at hm
      have h2 : p.val ≤ p.val / 5 * 5 + g.val := hfirst _ hm
      omega

theorem bestJ_at (x : FVec Ideal S16x24x5 .f32) (b : Fin 16) (z : Fin 1) : bestJ x (ix2 b z) = flat x b (spot x b) := by
  rw [bestJ_row, (spot_split x b).2.2]

theorem argJ_at (x : FVec Ideal S16x24x5 .f32) (b : Fin 16) (z : Fin 1) : argJ x (ix2 b z) = BitVec.ofNat 32 ((spot x b).val / 5) := by
  rw [argJ_row, (spot_split x b).1]

theorem chosenK_at (x : FVec Ideal S16x24x5 .f32) (b : Fin 16) (z : Fin 1) : chosenK x (ix2 b z) = BitVec.ofNat 32 ((spot x b).val % 5) := by
  pointwise [chosenK, isJ]
  rw [argJ_at]
  rw [fold_one (by norm_num) ⟨(spot x b).val / 5, by omega⟩ (fun j : Fin 24 => argK x (ix2 b j)), argK_at, (spot_split x b).2.1]

theorem chosenTok_at (tk : IVec S16x24x5 32) (x : FVec Ideal S16x24x5 .f32) (b : Fin 16) (z : Fin 1) :
    chosenTok tk x (ix2 b z) = tk (ix3 b ⟨(spot x b).val / 5, by omega⟩ ⟨(spot x b).val % 5, by omega⟩) := by
  pointwise [chosenTok, isJ]
  rw [argJ_at]
  rw [fold_one (by norm_num) ⟨(spot x b).val / 5, by omega⟩ (fun j : Fin 24 => Finset.fold IntOp.addi (0#32) (fun k : Fin 5 =>
    Scalar.select (IntOp.cmpi CmpIPredicate.eq (BitVec.ofNat 32 k.val) (argK x (ix2 b j))) (tk (ix3 b j k)) 0#32) Finset.univ), argK_at, (spot_split x b).2.1]
  exact fold_one (by norm_num) ⟨(spot x b).val % 5, by omega⟩ (fun k : Fin 5 => tk (ix3 b ⟨(spot x b).val / 5, by omega⟩ k))

theorem strike_at (x : FVec Ideal S16x24x5 .f32) (b : Fin 16) (q : Fin 120) :
    flat (strike x) b q = if q = spot x b then ⊥ else flat x b q := by
  unfold flat
  pointwise [strike]
  rw [argJ_at, chosenK_at, ofBits_bot]
  have hq := q.isLt
  have hp := (spot x b).isLt
  by_cases h : q = spot x b
  · subst h
    rw [if_pos rfl]
    simp [IntOp.andi, IntOp.cmpi, Scalar.select]
  · rw [if_neg h]
    have hne : ¬ (q.val / 5 = (spot x b).val / 5 ∧ q.val % 5 = (spot x b).val % 5) := fun ⟨h1, h2⟩ => h (Fin.ext (by omega))
    apply if_neg
    intro hc
    apply hne
    have e : ∀ (c d : ℕ), c < 2 ^ 32 → d < 2 ^ 32 → IntOp.cmpi CmpIPredicate.eq (BitVec.ofNat 32 c) (BitVec.ofNat 32 d) = BitVec.ofBool (decide (c = d)) := by
      intro c d hc hd
      unfold IntOp.cmpi
      congr 1
      rw [Bool.eq_iff_iff, beq_iff_eq, decide_eq_true_iff]
      exact ofNat_inj hc hd
    rw [e _ _ (by omega) (by omega), e _ _ (by omega) (by omega)] at hc
    by_cases h1 : q.val / 5 = (spot x b).val / 5 <;> by_cases h2 : q.val % 5 = (spot x b).val % 5
    · exact ⟨h1, h2⟩
    all_goals simp [h1, h2, IntOp.andi] at hc

/-- The choices take the candidates' sorted order. -/
theorem left_search (x : FVec Ideal S16x24x5 .f32) (b : Fin 16) (y : Fin 100 → EReal)
    (hx : ∀ q (hq : q < 100), flat x b ⟨q, by omega⟩ = y ⟨q, hq⟩) (hy : ∀ q, ⊥ < y q)
    (hp : ∀ q : Fin 120, 100 ≤ q.val → flat x b q = ⊥) (r : ℕ) (hr : r < 100) :
    (spot (left x r) b).val = (top y ⟨r, hr⟩).val ∧ flat (left x r) b (spot (left x r) b) = y (top y ⟨r, hr⟩) :=
  search (n := 120) (m := 100) (by norm_num) y (fun r => flat (left x r) b) (fun r => spot (left x r) b)
    (fun q hq => hx q hq) hy (fun q hq w => (hp q hq).le.trans bot_le)
    (fun r v => strike_at _ _ _) (fun r v => le_firstAt _ _ v) (fun r v h => firstAt_le _ _ v h) r hr

end Cert.Beam

end
-- ==== Proof.KernelStep.lean ====
module

public import proofs.«01_k».proof.Proof.KernelSearch

/-! One step of the kernel is one step of the search. -/

@[expose] public section

set_option maxRecDepth 16384

noncomputable section

namespace Cert.Beam

open Idealize.ShloMosaic Idealize.SL.Sem Cert.KernelIdeal Cert.KernelIdeal.Gen

theorem catI_at (f : ℕ → ℕ → IVec S16x1 32) (b : Fin 16) (j : Fin 20) :
    catI f (ix2 b ⟨j.val, by omega⟩) = f (j.val / 5) (j.val % 5) (ix2 b 0) := by
  pointwise [catI]
  fin_vals j with hj <;> simp only [hj, Nat.reduceSub, Nat.reduceLT, ↓reduceDIte, Nat.reduceDiv, Nat.reduceMod] <;> rfl

theorem catF_at (f : ℕ → ℕ → FVec Ideal S16x1 .f32) (b : Fin 16) (j : Fin 20) :
    catF f (ix2 b ⟨j.val, by omega⟩) = f (j.val / 5) (j.val % 5) (ix2 b 0) := by
  pointwise [catF]
  fin_vals j with hj <;> simp only [hj, Nat.reduceSub, Nat.reduceLT, ↓reduceDIte, Nat.reduceDiv, Nat.reduceMod] <;> rfl

theorem catF_pad (f : ℕ → ℕ → FVec Ideal S16x1 .f32) (b : Fin 16) (j : Fin 24) (hj : 20 ≤ j.val) :
    catF f (ix2 b j) = ⊥ := by
  pointwise [catF]
  simp only [ofBits_bot]
  obtain ⟨j, hj'⟩ := j
  simp only at hj
  have : j = 20 ∨ j = 21 ∨ j = 22 ∨ j = 23 := by omega
  rcases this with rfl | rfl | rfl | rfl <;> simp only [Nat.reduceSub, Nat.reduceLT, ↓reduceDIte]

/-- The kernel's carried values hold the beams. -/
structure Holds (a : Carried Ideal) (B : Beams) : Prop where
  tok : ∀ (b : Fin 16) (j : Fin 20), a.1 (ix2 b ⟨j.val, by omega⟩) = BitVec.ofNat 32 (B.tok b j).val
  lp : ∀ (b : Fin 16) (j : Fin 20), a.2.1 (ix2 b ⟨j.val, by omega⟩) = B.lp b j
  pad : ∀ (b : Fin 16) (j : Fin 24), 20 ≤ j.val → a.2.1 (ix2 b j) = ⊥
  h : ∀ (b : Fin 16) (j : Fin 20) (l : Fin 1024), a.2.2.1 (ix3 b ⟨j.val, by omega⟩ l) = B.h b j l

/-- The kernel's matrices and masks hold what the search is given. -/
structure Weights (G : Given) (we wh wo : FVec Ideal S1024x1024 .f32) (fw : FVec Ideal S384x1024 .f32) (mk : ℕ → IVec S1x16x24x1024 8) : Prop where
  we : ∀ (v : Fin 1000) (l : Fin 1024), we (ix2 ⟨v.val, by omega⟩ l) = G.E v l
  wh : ∀ (x l : Fin 1024), wh (ix2 x l) = G.Wh x l
  wo : ∀ (x : Fin 1024) (v : Fin 1000), wo (ix2 x ⟨v.val, by omega⟩) = G.Wo x v
  fw : ∀ (i : Fin 384) (l : Fin 1024), fw (ix2 i l) = ∑ x, G.feat ⟨i.val / 24, by omega⟩ x * G.Wf x l
  ok : ∀ (s : Fin 4) (b : Fin 16) (j : Fin 20) (v : Fin 1000),
    mk s.val (ix4 0 b ⟨j.val, by omega⟩ ⟨v.val, by omega⟩) ≠ 0#8 ↔ G.ok b ⟨j.val / 5, by omega⟩ s v
  no : ∀ (s : Fin 4) (b : Fin 16) (j : Fin 20) (v : Fin 1024), 1000 ≤ v.val → mk s.val (ix4 0 b ⟨j.val, by omega⟩ v) = 0#8

theorem sel_slt {α : Type} (a b : ℕ) (ha : a < 2 ^ 31) (hb : b < 2 ^ 31) (x y : α) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    unfold IntOp.cmpi
    congr 1
    rw [BitVec.slt_eq_decide, ofNat_toInt a ha, ofNat_toInt b hb]
    exact decide_eq_decide.mpr Nat.cast_lt
  rw [e]
  by_cases h : a < b <;> simp [h, Scalar.select]

theorem sel_ne {α : Type} (w : ℕ) (a b : BitVec w) (x y : α) : Scalar.select (IntOp.cmpi .ne a b) x y = if a = b then y else x := by
  by_cases h : a = b
  · simp [IntOp.cmpi, Scalar.select, h]
  · have : (a != b) = true := bne_iff_ne.mpr h
    simp only [IntOp.cmpi, Scalar.select, this, if_neg h]
    exact if_pos (by decide)

theorem mask_bot : (Named.named (F := Ideal) (φ := .f32) κ "mask" 0xF149F2CA#32 : EReal) = ⊥ :=
  IdealRules.named_const.ideal_named_scalar _ _ _ _ rfl

theorem hidden_at (we wh : FVec Ideal S1024x1024 .f32) (fw : FVec Ideal S384x1024 .f32) (pr : IVec S16x24 32) (h : FVec Ideal S16x24x1024 .f32) (i : Fin 384) (l : Fin 1024)
    (t : ℕ) (ht : t < 1024) (hpr : pr (ix2 ⟨i.val / 24, by omega⟩ ⟨i.val % 24, by omega⟩) = BitVec.ofNat 32 t) :
    hidden we wh fw pr h (ix2 i l)
      = Ideal.tanh ((∑ x, h (ix3 ⟨i.val / 24, by omega⟩ ⟨i.val % 24, by omega⟩ x) * wh (ix2 x l)) + we (ix2 ⟨t, ht⟩ l) + fw (ix2 i l)) := by
  pointwise [hidden]
  have hs := sum_onehot (n := 1024) (by norm_num) t ht (fun x => we (ix2 x l))
  rw [← hpr] at hs
  exact congrArg (fun y => Ideal.tanh (_ + y + _)) hs

theorem logits3_at (wo : FVec Ideal S1024x1024 .f32) (hn : FVec Ideal S384x1024 .f32) (b : Fin 16) (j : Fin 24) (v : Fin 1024) :
    logits3 wo hn (ix3 b j v) = if v.val < 1000 then ∑ x, hn (ix2 ⟨b.val * 24 + j.val, by omega⟩ x) * wo (ix2 x v) else ⊥ := by
  pointwise [logits3]
  rw [sel_slt _ _ (by omega) (by omega), mask_bot]

theorem logSoft3_at (z : FVec Ideal S16x24x1024 .f32) (b : Fin 16) (j : Fin 24) (v : Fin 1024) : logSoft3 z (ix3 b j v) = lsm (row3 z b j) v := by
  pointwise [logSoft3, shifted3]
  rw [max3_at]; rfl

theorem cleaned_at (pr : IVec S16x24 32) (lp : FVec Ideal S16x24x1024 .f32) (b : Fin 16) (j : Fin 24) (v : Fin 1024) (t : ℕ) (ht : t < 1024)
    (hpr : pr (ix2 b j) = BitVec.ofNat 32 t) :
    cleaned pr lp (ix3 b j v) = if t = 2 then (if v.val = 2 then 0 else neg) else lp (ix3 b j v) := by
  pointwise [cleaned, afterEnd]
  rw [hpr, sel_ofNat _ _ (by omega) (by omega), sel_ofNat _ _ (by omega) (by omega)]

theorem masked3_at (mk : IVec S1x16x24x1024 8) (x : FVec Ideal S16x24x1024 .f32) (b : Fin 16) (j : Fin 24) (v : Fin 1024) :
    masked3 mk x (ix3 b j v) = if mk (ix4 0 b j v) = 0#8 then neg else x (ix3 b j v) := by
  pointwise [masked3]
  rw [sel_ne]

theorem candLp_at (x : FVec Ideal S16x24x1024 .f32) (lp : FVec Ideal S16x24 .f32) (b : Fin 16) (j : Fin 24) (k : Fin 5) :
    candLp x lp (ix3 b j k) = max3 (rows3 x k.val) (ix3 b j 0) + lp (ix2 b j) := by
  pointwise [candLp]
  fin_vals k with hk <;> simp only [hk, Nat.reduceSub, Nat.reduceLT, ↓reduceDIte] <;> rfl

theorem candTok_at (x : FVec Ideal S16x24x1024 .f32) (b : Fin 16) (j : Fin 24) (k : Fin 5) :
    candTok x (ix3 b j k) = arg3 (rows3 x k.val) (ix3 b j 0) := by
  pointwise [candTok]
  fin_vals k with hk <;> simp only [hk, Nat.reduceSub, Nat.reduceLT, ↓reduceDIte] <;> rfl

theorem gath_at (hn : FVec Ideal S16x24x1024 .f32) (bp : IVec S16x24 32) (b : Fin 16) (j : Fin 24) (l : Fin 1024) (p : ℕ) (hp : p < 24)
    (h : bp (ix2 b j) = BitVec.ofNat 32 p) (k : ℕ) (hk : k ≤ 24) :
    gath hn bp k hk (ix3 b j l) = if p < k then hn (ix3 b ⟨p, hp⟩ l) else hn (ix3 b j l) := by
  induction k with
  | zero => rfl
  | succ k ih =>
    unfold gath
    pointwise []
    rw [h, sel_ofNat _ _ (by omega) (by omega), ih]
    by_cases e : p = k
    · subst e; rw [if_pos rfl, if_pos (by omega)]
    · rw [if_neg e]
      exact if_congr (by omega) rfl rfl

variable {G : Given} {B : Beams} {we wh wo : FVec Ideal S1024x1024 .f32} {fw : FVec Ideal S384x1024 .f32} {mk : ℕ → IVec S1x16x24x1024 8} {a : Carried Ideal}

theorem hidden_hid (W : Weights G we wh wo fw mk) (H : Holds a B) (b : Fin 16) (j : Fin 20) (l : Fin 1024) :
    hidden we wh fw a.1 a.2.2.1 (ix2 ⟨b.val * 24 + j.val, by omega⟩ l) = hid G B b j l := by
  have e1 : (⟨(b.val * 24 + j.val) / 24, by omega⟩ : Fin 16) = b := Fin.ext (by simp; omega)
  have e2 : (⟨(b.val * 24 + j.val) % 24, by omega⟩ : Fin 24) = ⟨j.val, by omega⟩ := Fin.ext (by simp; omega)
  have ht := (B.tok b j).isLt
  rw [hidden_at we wh fw a.1 a.2.2.1 ⟨b.val * 24 + j.val, by omega⟩ l (B.tok b j).val (by omega) (by simp only [e1, e2]; exact H.tok b j)]
  simp only [e1, e2, H.h, W.wh, W.we, W.fw]
  rfl

theorem scores_sc (W : Weights G we wh wo fw mk) (H : Holds a B) (s : Fin 4) (b : Fin 16) (j : Fin 20) (v : Fin 1000) :
    scores we wh wo fw mk a s.val (ix3 b ⟨j.val, by omega⟩ ⟨v.val, by omega⟩) = sc G B s b j v := by
  have ht := (B.tok b j).isLt
  unfold scores
  rw [masked3_at, cleaned_at _ _ _ _ _ (B.tok b j).val (by omega) (H.tok b j), logSoft3_at]
  have hl : lsm (row3 (logits3 wo (hidden we wh fw a.1 a.2.2.1)) b ⟨j.val, by omega⟩) ⟨v.val, by omega⟩ = lsm (logit G (hid G B b j)) v := by
    apply lsm_pad
    · intro u hu
      unfold row3
      rw [logits3_at, if_pos hu]
      unfold logit
      exact Finset.sum_congr rfl fun x _ => by rw [hidden_hid W H]; congr 1; exact W.wo x ⟨u, hu⟩
    · intro u hu
      unfold row3
      rw [logits3_at, if_neg (by omega)]
  rw [hl]
  unfold sc allow clean
  by_cases h : G.ok b ⟨j.val / 5, by omega⟩ s v
  · rw [if_neg ((W.ok s b j v).mpr h), if_pos h]
  · rw [if_pos (not_not.mp fun h' => h ((W.ok s b j v).mp h')), if_neg h]

theorem scores_pad (W : Weights G we wh wo fw mk) (s : Fin 4) (b : Fin 16) (j : Fin 20) (v : Fin 1024) (hv : 1000 ≤ v.val) :
    scores we wh wo fw mk a s.val (ix3 b ⟨j.val, by omega⟩ v) = neg := by
  unfold scores
  rw [masked3_at, if_pos (W.no s b j v hv)]

theorem scores_search (W : Weights G we wh wo fw mk) (H : Holds a B) (s : Fin 4) (b : Fin 16) (j : Fin 20) (k : Fin 5) :
    arg3 (rows3 (scores we wh wo fw mk a s.val) k.val) (ix3 b ⟨j.val, by omega⟩ 0) = BitVec.ofNat 32 (best G B s b j k).val
    ∧ max3 (rows3 (scores we wh wo fw mk a s.val) k.val) (ix3 b ⟨j.val, by omega⟩ 0) = sc G B s b j (best G B s b j k) :=
  rows3_search _ b ⟨j.val, by omega⟩ (sc G B s b j) (fun v hv => scores_sc W H s b j ⟨v, hv⟩) (neg_le_sc G B s b j)
    (fun v hv => scores_pad W s b j v hv) k.val (by omega) 0

theorem pool_search (W : Weights G we wh wo fw mk) (H : Holds a B) (hB : ∀ b j, ⊥ < B.lp b j) (b : Fin 16) (j : Fin 20) :
    (spot (pool we wh wo fw mk a (j.val / 5) (j.val % 5)) b).val = (pick G B b j).val
    ∧ flat (pool we wh wo fw mk a (j.val / 5) (j.val % 5)) b (spot (pool we wh wo fw mk a (j.val / 5) (j.val % 5)) b) = cand G B ⟨j.val / 5, by omega⟩ b (pick G B b j) := by
  refine left_search _ b (cand G B ⟨j.val / 5, by omega⟩ b) ?_ (bot_lt_cand G B hB _ _) ?_ (j.val % 5) (by omega)
  · intro q hq
    unfold flat
    rw [candLp_at]
    have h := (scores_search W H ⟨j.val / 5, by omega⟩ b ⟨q / 5, by omega⟩ ⟨q % 5, by omega⟩).2
    have h' := H.lp b ⟨q / 5, by omega⟩
    exact congrArg₂ (· + ·) h h'
  · intro q hq
    unfold flat
    rw [candLp_at, H.pad b _ (by simp; omega), EReal.add_bot]

theorem tokens_next (W : Weights G we wh wo fw mk) (H : Holds a B) (hB : ∀ b j, ⊥ < B.lp b j) (b : Fin 16) (j : Fin 20) :
    tokens we wh wo fw mk a (ix2 b ⟨j.val, by omega⟩) = BitVec.ofNat 32 ((next G B).tok b j).val := by
  have hp := pool_search W H hB b j
  have hq := (pick G B b j).isLt
  unfold tokens
  rw [catI_at, chosenTok_at, candTok_at]
  have h := (scores_search W H ⟨j.val / 5, by omega⟩ b (par G B b j) ⟨(pick G B b j).val % 5, by omega⟩).1
  refine Eq.trans ?_ h
  have e1 : (⟨(spot (pool we wh wo fw mk a (j.val / 5) (j.val % 5)) b).val / 5, by omega⟩ : Fin 24) = ⟨(par G B b j).val, by omega⟩ :=
    Fin.ext (congrArg (· / 5) hp.1)
  rw [e1]
  simp only [hp.1]

theorem parents_par (W : Weights G we wh wo fw mk) (H : Holds a B) (hB : ∀ b j, ⊥ < B.lp b j) (b : Fin 16) (j : Fin 20) :
    parents we wh wo fw mk a (ix2 b ⟨j.val, by omega⟩) = BitVec.ofNat 32 (par G B b j).val := by
  unfold parents
  rw [catI_at, argJ_at, (pool_search W H hB b j).1]
  rfl

/-- ONE STEP: the kernel's carried values hold the next beams. -/
theorem trip_next (W : Weights G we wh wo fw mk) (H : Holds a B) (hB : ∀ b j, ⊥ < B.lp b j) (i : BitVec 32) :
    Holds (trip we wh wo fw mk i a) (next G B) where
  tok := tokens_next W H hB
  lp b j := (catF_at (fun s r => bestJ (pool we wh wo fw mk a s r)) b j).trans ((bestJ_at _ b 0).trans (pool_search W H hB b j).2)
  pad b j hj := catF_pad (fun s r => bestJ (pool we wh wo fw mk a s r)) b j hj
  h b j l := by
    have hp := (par G B b j).isLt
    refine (gath_at (shapeCast S16x24x1024 (hidden we wh fw a.1 a.2.2.1) shapeCasts_S384x1024_S16x24x1024) (parents we wh wo fw mk a) b ⟨j.val, by omega⟩ l
      (par G B b j).val (by omega) (parents_par W H hB b j) 20 (by decide)).trans ?_
    rw [if_pos hp]
    pointwise []
    exact hidden_hid W H b (par G B b j) l

end Cert.Beam

end
-- ==== Proof.KernelTables.lean ====
module

public import proofs.«01_k».proof.Proof.KernelStep

/-! The kernel's start, its eleven steps and its way back through the tables. -/

@[expose] public section

set_option maxRecDepth 16384

noncomputable section

namespace Cert.Beam

open Idealize.ShloMosaic Idealize.SL.Sem Cert.KernelIdeal Cert.KernelIdeal.Gen

theorem putAt_at (t : ℕ) (ht : t < 2 ^ 32) (row : IVec S16x24 32) (tab : IVec S12x16x24 32) (n : Fin 12) (b : Fin 16) (j : Fin 24) :
    putAt (BitVec.ofNat 32 t) row tab (ix3 n b j) = if n.val = t then row (ix2 b j) else tab (ix3 n b j) := by
  pointwise [putAt]
  rw [sel_ofNat _ _ (by omega) ht]

theorem rowAt_at (tab : IVec S12x16x24 32) (t : ℕ) (ht : t < 12) (b : Fin 16) (j : Fin 24) : rowAt tab t ht (ix2 b j) = tab (ix3 ⟨t, ht⟩ b j) := by
  pointwise [rowAt]

theorem gathI_at (x ix : IVec S16x24 32) (b : Fin 16) (j : Fin 24) (p : ℕ) (hp : p < 24)
    (h : ix (ix2 b j) = BitVec.ofNat 32 p) (k : ℕ) (hk : k ≤ 24) :
    gathI x ix k hk (ix2 b j) = if p < k then x (ix2 b ⟨p, hp⟩) else x (ix2 b j) := by
  induction k with
  | zero => rfl
  | succ k ih =>
    unfold gathI
    pointwise []
    rw [h, sel_ofNat _ _ (by omega) (by omega), ih]
    by_cases e : p = k
    · subst e; rw [if_pos rfl, if_pos (by omega)]
    · rw [if_neg e]
      exact if_congr (by omega) rfl rfl

theorem iv_eq (n : ℕ) : Scf.iv 0#32 1#32 n = BitVec.ofNat 32 n := by simp [Scf.iv]

theorem add_one (n : ℕ) : Scalar.addi (BitVec.ofNat 32 n) 1#32 = BitVec.ofNat 32 (n + 1) := by
  simp [Scalar.addi, IntOp.addi, BitVec.ofNat_add]

variable {G : Given} {we wh wo : FVec Ideal S1024x1024 .f32} {fw : FVec Ideal S384x1024 .f32} {mk : ℕ → IVec S1x16x24x1024 8}

/-- The state after `n` steps: the beams, and both tables up to there. -/
structure Reached (G : Given) (a : Carried Ideal) (n : ℕ) : Prop where
  holds : Holds a (beams G n)
  tok : ∀ t (ht : t < 12), t ≤ n → ∀ (b : Fin 16) (j : Fin 20), a.2.2.2.1 (ix3 ⟨t, ht⟩ b ⟨j.val, by omega⟩) = BitVec.ofNat 32 ((beams G t).tok b j).val
  par : ∀ t (ht : t < 12), t < n → ∀ (b : Fin 16) (j : Fin 20), a.2.2.2.2 (ix3 ⟨t, ht⟩ b ⟨j.val, by omega⟩) = BitVec.ofNat 32 (par G (beams G t) b j).val

theorem reached_succ (W : Weights G we wh wo fw mk) (a : Carried Ideal) (n : ℕ) (hn : n < 12) (R : Reached G a n) :
    Reached G (trip we wh wo fw mk (Scf.iv 0#32 1#32 n) a) (n + 1) where
  holds := trip_next W R.holds (bot_lt_lp G n) _
  tok t ht htn b j := by
    rw [iv_eq]
    refine (congrFun (congrArg (fun i => putAt i (tokens we wh wo fw mk a) a.2.2.2.1) (add_one n)) _).trans ?_
    refine (putAt_at (n + 1) (by omega) _ _ _ _ _).trans ?_
    by_cases e : t = n + 1
    · subst e
      rw [if_pos rfl]
      exact tokens_next W R.holds (bot_lt_lp G n) b j
    · rw [if_neg e]
      exact R.tok t ht (by omega) b j
  par t ht htn b j := by
    rw [iv_eq]
    refine (putAt_at n (by omega) (parents we wh wo fw mk a) a.2.2.2.2 _ _ _).trans ?_
    by_cases e : t = n
    · subst e
      rw [if_pos rfl]
      exact parents_par W R.holds (bot_lt_lp G t) b j
    · rw [if_neg e]
      exact R.par t ht (by omega) b j

theorem reached (W : Weights G we wh wo fw mk) (a : Carried Ideal) (R : Reached G a 0) (n : ℕ) (hn : n ≤ 11) :
    Reached G (steps we wh wo fw mk a n) n := by
  induction n with
  | zero => exact R
  | succ n ih => exact reached_succ W _ n (by omega) (ih (by omega))

theorem back_from {a : Carried Ideal} (R : Reached G a 11) (b : Fin 16) (j : Fin 20) (n : ℕ) (hn : n ≤ 10) :
    back a.2.2.2.2 n hn (ix2 b ⟨j.val, by omega⟩) = BitVec.ofNat 32 (from' G b j (n + 1)).val := by
  induction n with
  | zero =>
    unfold back
    rw [rowAt_at]
    exact R.par 10 (by omega) (by omega) b j
  | succ n ih =>
    have hp := (from' G b j (n + 1)).isLt
    unfold back
    rw [gathI_at _ _ _ _ (from' G b j (n + 1)).val (by omega) (ih (by omega)), if_pos hp, rowAt_at]
    refine (R.par (9 - n) (by omega) (by omega) b (from' G b j (n + 1))).trans ?_
    conv_rhs => unfold from'
    rw [show 10 - (n + 1) = 9 - n by omega]

theorem traced_hist {a : Carried Ideal} (R : Reached G a 11) (b : Fin 16) (j : Fin 20) (n : ℕ) (hn : n ≤ 10) :
    traced a.2.2.2.1 a.2.2.2.2 n hn (ix2 b ⟨j.val, by omega⟩) = BitVec.ofNat 32 (hist G b 11 j ⟨10 - n, by omega⟩).val := by
  have hp := (from' G b j (n + 1)).isLt
  unfold traced
  rw [gathI_at _ _ _ _ (from' G b j (n + 1)).val (by omega) (back_from R b j n hn), if_pos hp, rowAt_at]
  refine (R.tok (10 - n) (by omega) (by omega) b (from' G b j (n + 1))).trans ?_
  have e := hist_eq G b j (n + 1) (by omega)
  have e' : 11 - (n + 1) = 10 - n := by omega
  simp only [e'] at e
  rw [e]

theorem last_hist {a : Carried Ideal} (R : Reached G a 11) (b : Fin 16) (j : Fin 20) :
    rowAt a.2.2.2.1 11 (by decide) (ix2 b ⟨j.val, by omega⟩) = BitVec.ofNat 32 (hist G b 11 j ⟨11, by omega⟩).val := by
  rw [rowAt_at, hist_last]
  exact R.tok 11 (by omega) (by omega) b j

/-- What the first step needs: its masks, features, tokens and hidden rows. -/
structure Inputs (G : Given) (feat : FVec Ideal S16x1024 .f32) (wf : FVec Ideal S1024x1024 .f32) (sp : IVec S16x1 32) (h0 : FVec Ideal S16x1024 .f32) (mk : ℕ → IVec S1x16x1024 8) : Prop where
  feat : ∀ b l, feat (ix2 b l) = G.feat b l
  wf : ∀ x l, wf (ix2 x l) = G.Wf x l
  sp : ∀ b, sp (ix2 b 0) = BitVec.ofNat 32 (G.sp b).val
  h0 : ∀ b l, h0 (ix2 b l) = G.h0 b l
  ok : ∀ (s : Fin 4) (b : Fin 16) (v : Fin 1000), mk s.val (ix3 0 b ⟨v.val, by omega⟩) ≠ 0#8 ↔ G.ok b 0 s v

theorem featPart_at (feat : FVec Ideal S16x1024 .f32) (wf : FVec Ideal S1024x1024 .f32) (b : Fin 16) (l : Fin 1024) :
    featPart feat wf (ix2 b l) = ∑ x, feat (ix2 b x) * wf (ix2 x l) := by
  pointwise [featPart]

theorem hidden0_at (feat : FVec Ideal S16x1024 .f32) (we wh wf : FVec Ideal S1024x1024 .f32) (sp : IVec S16x1 32) (h0 : FVec Ideal S16x1024 .f32) (b : Fin 16) (l : Fin 1024)
    (t : ℕ) (ht : t < 1024) (hsp : sp (ix2 b 0) = BitVec.ofNat 32 t) :
    hidden0 feat we wh wf sp h0 (ix2 b l) = Ideal.tanh ((∑ x, h0 (ix2 b x) * wh (ix2 x l)) + we (ix2 ⟨t, ht⟩ l) + ∑ x, feat (ix2 b x) * wf (ix2 x l)) := by
  pointwise [hidden0, featPart]
  have hs := sum_onehot (n := 1024) (by norm_num) t ht (fun x => we (ix2 x l))
  rw [← hsp] at hs
  exact congrArg (fun y => Ideal.tanh (_ + y + _)) hs

theorem logits2_at (wo : FVec Ideal S1024x1024 .f32) (hn : FVec Ideal S16x1024 .f32) (b : Fin 16) (v : Fin 1024) :
    logits2 wo hn (ix2 b v) = if v.val < 1000 then ∑ x, hn (ix2 b x) * wo (ix2 x v) else ⊥ := by
  pointwise [logits2]
  rw [sel_slt _ _ (by omega) (by omega), mask_bot]

theorem logSoft2_at (z : FVec Ideal S16x1024 .f32) (b : Fin 16) (v : Fin 1024) : logSoft2 z (ix2 b v) = lsm (row2 z b) v := by
  pointwise [logSoft2, shifted2]
  rw [max2_at]; rfl

theorem masked2_at (mk : IVec S1x16x1024 8) (x : FVec Ideal S16x1024 .f32) (b : Fin 16) (v : Fin 1024) :
    masked2 mk x (ix2 b v) = if v.val < 1000 then (if mk (ix3 0 b v) = 0#8 then neg else x (ix2 b v)) else ⊥ := by
  pointwise [masked2]
  rw [sel_slt _ _ (by omega) (by omega), sel_ne, ofBits_bot]

section
variable {feat : FVec Ideal S16x1024 .f32} {wf : FVec Ideal S1024x1024 .f32} {sp : IVec S16x1 32} {h0 : FVec Ideal S16x1024 .f32} {m0 : ℕ → IVec S1x16x1024 8}

theorem hidden0_first (W : Weights G we wh wo fw mk) (I : Inputs G feat wf sp h0 m0) (b : Fin 16) (l : Fin 1024) :
    hidden0 feat we wh wf sp h0 (ix2 b l) = first G b l := by
  have ht := (G.sp b).isLt
  rw [hidden0_at feat we wh wf sp h0 b l (G.sp b).val (by omega) (I.sp b)]
  simp only [I.h0, I.feat, I.wf, W.wh, W.we]
  rfl

theorem scores0_sc0 (W : Weights G we wh wo fw mk) (I : Inputs G feat wf sp h0 m0) (s : Fin 4) (b : Fin 16) (v : Fin 1000) :
    scores0 (hidden0 feat we wh wf sp h0) wo m0 s.val (ix2 b ⟨v.val, by omega⟩) = sc0 G b s v := by
  unfold scores0
  rw [masked2_at, if_pos v.isLt, logSoft2_at]
  have hl : lsm (row2 (logits2 wo (hidden0 feat we wh wf sp h0)) b) ⟨v.val, by omega⟩ = lsm (logit G (first G b)) v := by
    apply lsm_pad
    · intro u hu
      unfold row2
      rw [logits2_at, if_pos hu]
      unfold logit
      exact Finset.sum_congr rfl fun x _ => by rw [hidden0_first W I]; congr 1; exact W.wo x ⟨u, hu⟩
    · intro u hu
      unfold row2
      rw [logits2_at, if_neg (by omega)]
  rw [hl]
  unfold sc0 allow
  by_cases h : G.ok b 0 s v
  · rw [if_neg ((I.ok s b v).mpr h), if_pos h]
  · rw [if_pos (not_not.mp fun h' => h ((I.ok s b v).mp h')), if_neg h]

theorem scores0_top (W : Weights G we wh wo fw mk) (I : Inputs G feat wf sp h0 m0) (b : Fin 16) (s : Fin 4) (r : ℕ) (hr : r < 1000) :
    arg2 (rows2 (scores0 (hidden0 feat we wh wf sp h0) wo m0 s.val) r) (ix2 b 0) = BitVec.ofNat 32 (top (sc0 G b s) ⟨r, hr⟩).val
    ∧ max2 (rows2 (scores0 (hidden0 feat we wh wf sp h0) wo m0 s.val) r) (ix2 b 0) = sc0 G b s (top (sc0 G b s) ⟨r, hr⟩) := by
  refine rows2_search (scores0 (hidden0 feat we wh wf sp h0) wo m0 s.val) b (sc0 G b s) ?_ (neg_le_sc0 G b s) ?_ r hr 0
  · intro v hv
    exact scores0_sc0 W I s b ⟨v, hv⟩
  · intro v hv
    unfold scores0
    rw [masked2_at, if_neg (by omega)]

theorem scores0_search (W : Weights G we wh wo fw mk) (I : Inputs G feat wf sp h0 m0) (b : Fin 16) (j : Fin 20) :
    arg2 (rows2 (scores0 (hidden0 feat we wh wf sp h0) wo m0 (j.val / 5)) (j.val % 5)) (ix2 b 0) = BitVec.ofNat 32 ((beams0 G).tok b j).val
    ∧ max2 (rows2 (scores0 (hidden0 feat we wh wf sp h0) wo m0 (j.val / 5)) (j.val % 5)) (ix2 b 0) = (beams0 G).lp b j := by
  have h5 : j.val / 5 < 4 := by omega
  have hr : j.val % 5 < 1000 := by omega
  have h := scores0_top W I b ⟨j.val / 5, h5⟩ (j.val % 5) hr
  exact ⟨h.1, h.2⟩

theorem perBeam_at (x : FVec Ideal S16x1024 .f32) (b : Fin 16) (j : Fin 24) (l : Fin 1024) : perBeam x (ix3 b j l) = x (ix2 b l) := by
  pointwise [perBeam]

theorem perStep_at (x : IVec S16x24 32) (t : Fin 12) (b : Fin 16) (j : Fin 24) :
    broadcastTo S12x16x24 (shapeCast S1x16x24 (shapeCast S1x16x24 x shapeCasts_S16x24_S1x16x24) shapeCasts_S1x16x24_S1x16x24) broadcasts_S1x16x24_S12x16x24 (ix3 t b j) = x (ix2 b j) := by
  pointwise []

theorem tokens0_at (W : Weights G we wh wo fw mk) (I : Inputs G feat wf sp h0 m0) (b : Fin 16) (j : Fin 20) :
    tokens0 (hidden0 feat we wh wf sp h0) wo m0 (ix2 b ⟨j.val, by omega⟩) = BitVec.ofNat 32 ((beams0 G).tok b j).val :=
  (catI_at (fun s r => arg2 (rows2 (scores0 (hidden0 feat we wh wf sp h0) wo m0 s) r)) b j).trans (scores0_search W I b j).1

theorem holds_start (W : Weights G we wh wo fw mk) (I : Inputs G feat wf sp h0 m0) : Holds (start (hidden0 feat we wh wf sp h0) wo m0) (beams0 G) where
  tok := tokens0_at W I
  lp b j := (catF_at (fun s r => max2 (rows2 (scores0 (hidden0 feat we wh wf sp h0) wo m0 s) r)) b j).trans (scores0_search W I b j).2
  pad b j hj := catF_pad (fun s r => max2 (rows2 (scores0 (hidden0 feat we wh wf sp h0) wo m0 s) r)) b j hj
  h b j l := (perBeam_at (hidden0 feat we wh wf sp h0) b ⟨j.val, by omega⟩ l).trans (hidden0_first W I b l)

theorem reached_start (W : Weights G we wh wo fw mk) (I : Inputs G feat wf sp h0 m0) : Reached G (start (hidden0 feat we wh wf sp h0) wo m0) 0 where
  holds := holds_start W I
  tok t ht h b j := by
    have e : t = 0 := by omega
    subst e
    exact (perStep_at (tokens0 (hidden0 feat we wh wf sp h0) wo m0) ⟨0, ht⟩ b ⟨j.val, by omega⟩).trans (tokens0_at W I b j)
  par t _ h := absurd h (by omega)

end

end Cert.Beam

end
-- ==== Proof.Data.lean ====
module

public import proofs.«01_k».proof.Proof.Spec
public import Idealize.ShloMosaic.Lib.Pointwise

/-! The search's data read off the argument arrays. -/

@[expose] public section

set_option maxRecDepth 16384

noncomputable section

namespace Cert.Beam

open Idealize.ShloMosaic

/-- Output weights of bounded size. -/
def Bounded (x8 : (⟨2, ![1024, 1000]⟩ : Shape).Idx → EReal) : Prop :=
  ∀ k v, -((1000000000000000 : ℝ) : EReal) ≤ x8 (ix2 k v) ∧ x8 (ix2 k v) ≤ ((1000000000000000 : ℝ) : EReal)
/-- First tokens within the vocabulary. -/
def Tokens (x1 : (⟨1, ![16]⟩ : Shape).Idx → BitVec 32) : Prop := ∀ b, (x1 (ix1 b)).toNat < 1000

/-- What the argument arrays give the search. -/
def given (x0 : (⟨2, ![16, 1024]⟩ : Shape).Idx → EReal) (x1 : (⟨1, ![16]⟩ : Shape).Idx → BitVec 32) (x2 : (⟨2, ![16, 1024]⟩ : Shape).Idx → EReal)
    (x3 : (⟨4, ![16, 4, 4, 1000]⟩ : Shape).Idx → BitVec 1) (x5 : (⟨2, ![1000, 1024]⟩ : Shape).Idx → EReal) (x6 x7 : (⟨2, ![1024, 1024]⟩ : Shape).Idx → EReal)
    (x8 : (⟨2, ![1024, 1000]⟩ : Shape).Idx → EReal) (hb : Bounded x8) : Given where
  feat b l := x0 (ix2 b l)
  sp b := ⟨(x1 (ix1 b)).toNat % 1000, by omega⟩
  h0 b l := x2 (ix2 b l)
  ok b s t v := x3 (ix4 b s t v) = 1#1
  E v l := x5 (ix2 v l)
  Wh x l := x6 (ix2 x l)
  Wf x l := x7 (ix2 x l)
  Wo k v := x8 (ix2 k v)
  bound := hb

theorem first_token (x : BitVec 32) (h : x.toNat < 1000) : x = BitVec.ofNat 32 (x.toNat % 1000) := by
  rw [Nat.mod_eq_of_lt h, BitVec.ofNat_toNat, BitVec.setWidth_eq]

theorem bit_wide (x : BitVec 1) : x.setWidth 8 ≠ 0#8 ↔ x = 1#1 := by
  revert x; decide

/-- The tokens the search ends with, beam by beam of each state. -/
def tokensOut (G : Given) : (⟨4, ![16, 4, 5, 12]⟩ : Shape).Idx → BitVec 32 := fun y =>
  BitVec.ofNat 32 (hist G (y 0) 11 ⟨(y 1).val * 5 + (y 2).val, by have h1 : (y 1).val < 4 := (y 1).isLt; have h2 : (y 2).val < 5 := (y 2).isLt; omega⟩ (y 3)).val
/-- Their scores. -/
def scoresOut (G : Given) : (⟨3, ![16, 4, 5]⟩ : Shape).Idx → EReal := fun y =>
  (beams G 11).lp (y 0) ⟨(y 1).val * 5 + (y 2).val, by have h1 : (y 1).val < 4 := (y 1).isLt; have h2 : (y 2).val < 5 := (y 2).isLt; omega⟩

end Cert.Beam

end
-- ==== Proof.KernelResult.lean ====
module

public import proofs.«01_k».proof.Proof.KernelHost
public import proofs.«01_k».proof.Proof.KernelTables
public import proofs.«01_k».proof.Proof.Data

/-! The kernel's two results, by the search's data. -/

@[expose] public section

set_option maxRecDepth 16384

noncomputable section

namespace Cert.Beam

open Idealize.ShloMosaic Idealize.ShloMosaic.TcCoe Idealize.SL.Sem Cert.KernelIdeal Cert.KernelIdeal.Gen

variable (m : (ℓ : Loc nD τ sig) → Buf (Elt Ideal) ℓ) (c : Dev nD)

/-! Each input block is its whole array. -/

theorem whole0 (X : Buf (Elt Ideal) ((c.tc : Thread nD τ).loc (Pipeline.arrRef spec0 0))) : ((cfg0.win 0).blk t0_0).view.read (Elt Ideal) X = X := by
  funext j
  blk_ext
  all_goals first | rfl | exact (congrArg (· + _) (Nat.zero_mul _)).trans (Nat.zero_add _)
theorem blk0 : iblk m c 0 t0_0 = m ((c.tc : Thread nD τ).loc main_arg0) := (whole0 c _).trans (V_main_arg0 m c)
theorem whole1 (X : Buf (Elt Ideal) ((c.tc : Thread nD τ).loc (Pipeline.arrRef spec0 1))) : ((cfg0.win 1).blk t0_0).view.read (Elt Ideal) X = X := by
  funext j
  blk_ext
  all_goals first | rfl | exact (congrArg (· + _) (Nat.zero_mul _)).trans (Nat.zero_add _)
theorem blk1 : iblk m c 1 t0_0 = V m c main_v0 := whole1 c _
theorem whole2 (X : Buf (Elt Ideal) ((c.tc : Thread nD τ).loc (Pipeline.arrRef spec0 2))) : ((cfg0.win 2).blk t0_0).view.read (Elt Ideal) X = X := by
  funext j
  blk_ext
  all_goals first | rfl | exact (congrArg (· + _) (Nat.zero_mul _)).trans (Nat.zero_add _)
theorem blk2 : iblk m c 2 t0_0 = m ((c.tc : Thread nD τ).loc main_arg2) := (whole2 c _).trans (V_main_arg2 m c)
theorem whole3 (X : Buf (Elt Ideal) ((c.tc : Thread nD τ).loc (Pipeline.arrRef spec0 3))) : ((cfg0.win 3).blk t0_0).view.read (Elt Ideal) X = X := by
  funext j
  blk_ext
  all_goals first | rfl | exact (congrArg (· + _) (Nat.zero_mul _)).trans (Nat.zero_add _)
theorem blk3 : iblk m c 3 t0_0 = V m c main_v13 := whole3 c _
theorem whole4 (X : Buf (Elt Ideal) ((c.tc : Thread nD τ).loc (Pipeline.arrRef spec0 4))) : ((cfg0.win 4).blk t0_0).view.read (Elt Ideal) X = X := by
  funext j
  blk_ext
  all_goals first | rfl | exact (congrArg (· + _) (Nat.zero_mul _)).trans (Nat.zero_add _)
theorem blk4 : iblk m c 4 t0_0 = V m c main_v22 := whole4 c _
theorem whole5 (X : Buf (Elt Ideal) ((c.tc : Thread nD τ).loc (Pipeline.arrRef spec0 5))) : ((cfg0.win 5).blk t0_0).view.read (Elt Ideal) X = X := by
  funext j
  blk_ext
  all_goals first | rfl | exact (congrArg (· + _) (Nat.zero_mul _)).trans (Nat.zero_add _)
theorem blk5 : iblk m c 5 t0_0 = V m c main_v3 := whole5 c _
theorem whole6 (X : Buf (Elt Ideal) ((c.tc : Thread nD τ).loc (Pipeline.arrRef spec0 6))) : ((cfg0.win 6).blk t0_0).view.read (Elt Ideal) X = X := by
  funext j
  blk_ext
  all_goals first | rfl | exact (congrArg (· + _) (Nat.zero_mul _)).trans (Nat.zero_add _)
theorem blk6 : iblk m c 6 t0_0 = m ((c.tc : Thread nD τ).loc main_arg6) := (whole6 c _).trans (V_main_arg6 m c)
theorem whole7 (X : Buf (Elt Ideal) ((c.tc : Thread nD τ).loc (Pipeline.arrRef spec0 7))) : ((cfg0.win 7).blk t0_0).view.read (Elt Ideal) X = X := by
  funext j
  blk_ext
  all_goals first | rfl | exact (congrArg (· + _) (Nat.zero_mul _)).trans (Nat.zero_add _)
theorem blk7 : iblk m c 7 t0_0 = m ((c.tc : Thread nD τ).loc main_arg7) := (whole7 c _).trans (V_main_arg7 m c)
theorem whole8 (X : Buf (Elt Ideal) ((c.tc : Thread nD τ).loc (Pipeline.arrRef spec0 8))) : ((cfg0.win 8).blk t0_0).view.read (Elt Ideal) X = X := by
  funext j
  blk_ext
  all_goals first | rfl | exact (congrArg (· + _) (Nat.zero_mul _)).trans (Nat.zero_add _)
theorem blk8 : iblk m c 8 t0_0 = V m c main_v6 := whole8 c _

theorem fm (x : Vec Ideal S4x16x1024 .i8) (s : Fin 4) (b : Fin 16) (v : Fin 1024) : firstMask x s.val (ix3 0 b v) = x (ix3 s b v) := by
  fin_cases s
  all_goals exact View.ld_unit_apply_of x _ _ _ _ _ (fun a => by fin_cases a <;> simp)

theorem sm (x : Vec Ideal S4x16x24x1024 .i8) (s : Fin 4) (b : Fin 16) (j : Fin 24) (v : Fin 1024) : stepMask x s.val (ix4 0 b j v) = x (ix4 s b j v) := by
  fin_cases s
  all_goals exact View.ld_unit_apply_of x _ _ _ _ _ (fun a => by fin_cases a <;> simp)

/-- The search's data in the kernel's memory. -/
abbrev data (hb : Bounded (m ((c.tc : Thread nD τ).loc main_arg8))) : Given :=
  given (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg6)) (m ((c.tc : Thread nD τ).loc main_arg7)) (m ((c.tc : Thread nD τ).loc main_arg8)) hb

variable (hb : Bounded (m ((c.tc : Thread nD τ).loc main_arg8)))
  (hsp : Tokens (m ((c.tc : Thread nD τ).loc main_arg1)))

theorem same (x : Vec Ideal S1024x1024 .f32) (i j : Fin 1024) : shapeCast S1024x1024 x shapeCasts_S1024x1024_S1024x1024 (ix2 i j) = x (ix2 i j) := by
  pointwise []

theorem spread (x : Vec Ideal S16x24x1024 .f32) (i : Fin 384) (l : Fin 1024) :
    shapeCast S384x1024 x shapeCasts_S16x24x1024_S384x1024 (ix2 i l) = x (ix3 ⟨i.val / 24, by omega⟩ ⟨i.val % 24, by omega⟩ l) := by
  pointwise []

theorem weights : Weights (data m c hb) (shapeCast S1024x1024 (iblk m c 5 t0_0 : Vec Ideal S1024x1024 .f32) shapeCasts_S1024x1024_S1024x1024) (iblk m c 6 t0_0)
    (shapeCast S1024x1024 (iblk m c 8 t0_0 : Vec Ideal S1024x1024 .f32) shapeCasts_S1024x1024_S1024x1024)
    (shapeCast S384x1024 (perBeam (featPart (iblk m c 0 t0_0) (iblk m c 7 t0_0))) shapeCasts_S16x24x1024_S384x1024) (stepMask (iblk m c 4 t0_0)) where
  we v l := (same _ _ _).trans ((congrFun (blk5 m c) _).trans (V_E m c v l))
  wh x l := congrFun (blk6 m c) _
  wo x v := (same _ _ _).trans ((congrFun (blk8 m c) _).trans (V_Wo m c x v))
  fw i l := by
    rw [blk0, blk7]
    exact (spread _ i l).trans ((perBeam_at _ _ _ l).trans (featPart_at _ _ _ l))
  ok s b j v := by
    rw [sm, blk4, V_M]
    exact bit_wide _
  no s b j v hv := by
    rw [sm, blk4]
    exact V_M_out m c s b j v hv

include hsp in
theorem inputs : Inputs (data m c hb) (iblk m c 0 t0_0) (iblk m c 7 t0_0) (iblk m c 1 t0_0) (iblk m c 2 t0_0) (firstMask (iblk m c 3 t0_0)) where
  feat b l := congrFun (blk0 m c) _
  wf x l := congrFun (blk7 m c) _
  sp b := ((congrFun (blk1 m c) _).trans (V_sp m c b)).trans (first_token _ (hsp b))
  h0 b l := congrFun (blk2 m c) _
  ok s b v := by
    rw [fm, blk3, V_m]
    exact bit_wide _

include hsp in
theorem reached_end : Reached (data m c hb) (atEnd m c t0_0) 11 :=
  reached (weights m c hb) _ (reached_start (weights m c hb) (inputs m c hb hsp)) 11 (by decide)

end Cert.Beam

end
-- ==== Proof.KernelRun.lean ====
module

public import proofs.«01_k».proof.Proof.KernelResult

/-! The kernel's run ends with the search's tokens and scores. -/

@[expose] public section

set_option maxRecDepth 16384

noncomputable section

namespace Cert.Beam

open Idealize.ShloMosaic Idealize.ShloMosaic.TcCoe Idealize.SL.Sem Cert.KernelIdeal Cert.KernelIdeal.Gen

variable (m : (ℓ : Loc nD τ sig) → Buf (Elt Ideal) ℓ) (c : Dev nD)
variable (hb : Bounded (m ((c.tc : Thread nD τ).loc main_arg8))) (hsp : Tokens (m ((c.tc : Thread nD τ).loc main_arg1)))

include hsp in
theorem row_hist (b : Fin 16) (j : Fin 20) (t : Fin 12) :
    rowOf (atEnd m c t0_0).2.2.2.1 (atEnd m c t0_0).2.2.2.2 t.val (ix2 b ⟨j.val, by omega⟩) = BitVec.ofNat 32 (hist (data m c hb) b 11 j t).val := by
  have R := reached_end m c hb hsp
  unfold rowOf
  by_cases h : t.val = 11
  · rw [if_pos h, last_hist R]
    congr 3
    exact Fin.ext h.symm
  · rw [if_neg h, traced_hist R b j (10 - t.val) (by omega)]
    congr 3
    exact Fin.ext (show 10 - (10 - t.val) = t.val by omega)

/-- The host's reading of the tokens' array. -/
theorem tail_tokens (x : IVec S12x16x24 32) (b : Fin 16) (s : Fin 4) (k : Fin 5) (t : Fin 12) :
    shapeCast S16x4x5x12 (transpose S16x20x12 [1, 2, 0] (extractStridedSlice S12x16x20 ![0, 0, 0] x slices_S12x16x24_S12x16x20_0_0_0) transposes_S12x16x20_S16x20x12_1_2_0)
      shapeCasts_S16x20x12_S16x4x5x12 (ix4 b s k t) = x (ix3 t b ⟨s.val * 5 + k.val, by omega⟩) := by
  pointwise []

/-- The host's reading of the scores' array. -/
theorem tail_scores (x : FVec Ideal S16x24 .f32) (b : Fin 16) (s : Fin 4) (k : Fin 5) :
    shapeCast S16x4x5 (extractStridedSlice S16x20 ![0, 0] x slices_S16x24_S16x20_0_0) shapeCasts_S16x20_S16x4x5 (ix3 b s k) = x (ix2 b ⟨s.val * 5 + k.val, by omega⟩) := by
  pointwise []

theorem arrays_inj : Function.Injective (Pipeline.arrRef spec0) := by decide

theorem tail26 : Pipeline.afterTail₀ cfgs (dats m) 0 (V0 m) [hostOps1] c main_v26 =
    shapeCast S16x4x5x12 (transpose S16x20x12 [1, 2, 0] (extractStridedSlice S12x16x20 ![0, 0, 0] ((dats m 0 c).arrAt 9 (cfgs 0).N : IVec S12x16x24 32) slices_S12x16x24_S12x16x20_0_0_0) transposes_S12x16x20_S16x20x12_1_2_0)
      shapeCasts_S16x20x12_S16x4x5x12 := by
  unfold Pipeline.afterTail₀
  show StableHlo.after hostOps1 _ _ = _
  unfold hostOps1
  after_results
  have h : (Pipeline.withArrays (cfgs 0).spec c (V0 m c) (fun w => (dats m 0 c).arrAt w (cfgs 0).N) (Proc.tc.devRef main_v23_0) : IVec S12x16x24 32) = (dats m 0 c).arrAt 9 (cfgs 0).N :=
    Pipeline.withArrays_arr spec0 arrays_inj c _ _ 9
  exact congrArg (fun x : IVec S12x16x24 32 => shapeCast S16x4x5x12 (transpose S16x20x12 [1, 2, 0] (extractStridedSlice S12x16x20 ![0, 0, 0] x slices_S12x16x24_S12x16x20_0_0_0) transposes_S12x16x20_S16x20x12_1_2_0)
      shapeCasts_S16x20x12_S16x4x5x12) h

theorem tail28 : Pipeline.afterTail₀ cfgs (dats m) 0 (V0 m) [hostOps1] c main_v28 =
    shapeCast S16x4x5 (extractStridedSlice S16x20 ![0, 0] ((dats m 0 c).arrAt 10 (cfgs 0).N : FVec Ideal S16x24 .f32) slices_S16x24_S16x20_0_0) shapeCasts_S16x20_S16x4x5 := by
  unfold Pipeline.afterTail₀
  show StableHlo.after hostOps1 _ _ = _
  unfold hostOps1
  after_results
  have h : (Pipeline.withArrays (cfgs 0).spec c (V0 m c) (fun w => (dats m 0 c).arrAt w (cfgs 0).N) (Proc.tc.devRef main_v23_1) : FVec Ideal S16x24 .f32) = (dats m 0 c).arrAt 10 (cfgs 0).N :=
    Pipeline.withArrays_arr spec0 arrays_inj c _ _ 10
  exact congrArg (fun x : FVec Ideal S16x24 .f32 => shapeCast S16x4x5 (extractStridedSlice S16x20 ![0, 0] x slices_S16x24_S16x20_0_0) shapeCasts_S16x20_S16x4x5) h

include hsp in
theorem out_tokens : Pipeline.afterTail₀ cfgs (dats m) 0 (V0 m) [hostOps1] c main_v26 = tokensOut (data m c hb) := by
  rw [tail26, arr9]
  funext y
  idx_vars y
  exact (tail_tokens _ y0 y1 y2 y3).trans (row_hist m c hb hsp y0 ⟨y1.val * 5 + y2.val, by omega⟩ y3)

include hsp in
theorem out_scores : Pipeline.afterTail₀ cfgs (dats m) 0 (V0 m) [hostOps1] c main_v28 = scoresOut (data m c hb) := by
  rw [tail28, arr10]
  funext y
  idx_vars y
  exact (tail_scores _ y0 y1 y2).trans ((reached_end m c hb hsp).holds.lp y0 ⟨y1.val * 5 + y2.val, by omega⟩)

theorem run_kernel (ρ : Dev nD → PrngReg) (hb : ∀ c : Dev nD, Bounded (m ((c.tc : Thread nD τ).loc main_arg8))) (hsp : ∀ c : Dev nD, Tokens (m ((c.tc : Thread nD τ).loc main_arg1))) :
    θ_run defs (onTc (τ := τ) (main (F := Ideal))) ⟨m, fun _ => 0, ρ⟩ (fun r => ∀ c : Dev nD,
      r.2.mem ((c.tc : Thread nD τ).loc main_v26) = tokensOut (data m c (hb c))
      ∧ r.2.mem ((c.tc : Thread nD τ).loc main_v28) = scoresOut (data m c (hb c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v26 (Pipeline.mem_restRefs_of main_v26 (by decide) (by decide))).trans (out_tokens m c (hb c) (hsp c)),
      ((h c).2 main_v28 (Pipeline.mem_restRefs_of main_v28 (by decide) (by decide))).trans (out_scores m c (hb c) (hsp c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩) (run_main m ρ)

end Cert.Beam

end
-- ==== Proof.RefOps.lean ====
module

public import proofs.«01_k».proof.Proof.Top
public import proofs.«01_k».proof.Proof.Fold
public import proofs.«01_k».proof.Proof.Gen.ReferenceIdeal.Run
public import Idealize.ShloMosaic.Lib.Pointwise
public import Idealize.ShloMosaic.Lib.ReduceAll

@[expose] public section

set_option maxRecDepth 16384

noncomputable section

namespace Cert.Beam.Ref

open Idealize.ShloMosaic Cert.ReferenceIdeal Cert.ReferenceIdeal.Gen

theorem gt_bit (a b : EReal) : ((FloatOps.cmpfTotal (F := Ideal) (φ := .f32) .gt a b : BitVec 1) == 1#1) = decide (b < a) := by
  show (Ideal.cmp CmpDirection.gt.ordered a b == 1#1) = _
  unfold Ideal.cmp CmpDirection.ordered
  by_cases h : b < a <;> simp [h]

/-- The greatest entries along an axis, at an index. -/
theorem topK_at {s t : Shape} (d : Nat) (hd : d < s.rank) (x : FVec Ideal s .f32) (h : s.Slices (fun _ => 0) t) (j : t.Idx) (i : s.Idx)
    (hi : ∀ a, (i a).val = (j (a.cast h.1.symm)).val) :
    (Host.topK t d (FloatOps.cmpfTotal (φ := .f32) .gt) x h).1 j = x (i.along ⟨d, hd⟩ (top (fun v => x (i.along ⟨d, hd⟩ v)) (i ⟨d, hd⟩)))
      ∧ (Host.topK t d (FloatOps.cmpfTotal (φ := .f32) .gt) x h).2 j = BitVec.ofNat 32 (top (fun v => x (i.along ⟨d, hd⟩ v)) (i ⟨d, hd⟩)).val := by
  have e : (fun a => ⟨0 + (j (a.cast h.1.symm)).val, Nat.lt_of_lt_of_le (Nat.add_lt_add_left (j _).isLt _) (h.2 a)⟩ : s.Idx) = i := by
    funext a; exact Fin.ext (by rw [hi a]; exact Nat.zero_add _)
  have et : (fun k k' => (FloatOps.cmpfTotal (F := Ideal) (φ := .f32) .gt (x (i.along ⟨d, hd⟩ k)) (x (i.along ⟨d, hd⟩ k')) : BitVec 1) == 1#1)
      = fun k k' => decide (x (i.along ⟨d, hd⟩ k') < x (i.along ⟨d, hd⟩ k)) := by
    funext k k'; exact gt_bit _ _
  have cut : ∀ {α : Type} (X : s.Idx → α), extractStridedSlice t (fun _ => 0) X h j = X i := fun X => congrArg X e
  unfold Host.topK
  dsimp only
  rw [cut, cut]
  unfold Host.sort2
  simp only [dif_pos hd, et]
  refine ⟨rfl, ?_⟩
  unfold iotaInDim Shape.Idx.along
  simp only [Function.update_self]
  rfl

theorem topK3 (x : FVec Ideal S16x4x5x1000 .f32) (b : Fin 16) (s : Fin 4) (j k : Fin 5) :
    (Host.topK S16x4x5x5 3 (FloatOps.cmpfTotal (φ := .f32) .gt) x sliceFits_S16x4x5x1000_S16x4x5x5).1 (ix4 b s j k) = x (ix4 b s j (top (fun v => x (ix4 b s j v)) ⟨k.val, by omega⟩)) ∧
    (Host.topK S16x4x5x5 3 (FloatOps.cmpfTotal (φ := .f32) .gt) x sliceFits_S16x4x5x1000_S16x4x5x5).2 (ix4 b s j k) = BitVec.ofNat 32 (top (fun v => x (ix4 b s j v)) ⟨k.val, by omega⟩).val := by
  have al : ∀ v : Fin 1000, Shape.Idx.along (s := S16x4x5x1000) (ix4 b s j (⟨k.val, by omega⟩ : Fin 1000)) (3 : Fin 4) v = ix4 b s j v := by
    intro v; unfold Shape.Idx.along; funext a
    match a with
    | ⟨0, _⟩ => rfl
    | ⟨1, _⟩ => rfl
    | ⟨2, _⟩ => rfl
    | ⟨3, _⟩ => rfl
  have h := topK_at 3 (by decide) x sliceFits_S16x4x5x1000_S16x4x5x5 (ix4 b s j k) (ix4 b s j (⟨k.val, by omega⟩ : Fin 1000)) (fun a => by
    match a with
    | ⟨0, _⟩ => rfl
    | ⟨1, _⟩ => rfl
    | ⟨2, _⟩ => rfl
    | ⟨3, _⟩ => rfl)
  have ef : (fun v : Fin 1000 => x (Shape.Idx.along (s := S16x4x5x1000) (ix4 b s j (⟨k.val, by omega⟩ : Fin 1000)) (3 : Fin 4) v)) = fun v => x (ix4 b s j v) := funext fun v => congrArg x (al v)
  refine ⟨h.1.trans ?_, h.2.trans ?_⟩
  · refine (congrArg x (al _)).trans ?_
    exact congrArg (fun f : Fin 1000 → EReal => x (ix4 b s j (top f (⟨k.val, by omega⟩ : Fin 1000)))) ef
  · exact congrArg (fun f : Fin 1000 → EReal => BitVec.ofNat 32 (top f (⟨k.val, by omega⟩ : Fin 1000)).val) ef

theorem start_at {s si t : Shape} (d : GatherDims s si t) (j : t.Idx) (idx : IVec si 32) (a : Fin s.rank) (ha : a ∈ d.startIndexMap)
    (q : ℕ) (hq : q < 2 ^ 31) (h : ∀ c, idx (d.siIdx j c) = BitVec.ofNat 32 q) : d.start j idx a = min q (s.size a - d.sliceSizes a) := by
  unfold GatherDims.start
  rw [dif_pos ha, h, ofNat_toInt q hq, Int.toNat_natCast]

theorem g1 (x : IVec S16x100 32) (i : IVec S16x5x1 32) (b : Fin 16) (k : Fin 5) (q : ℕ) (hq : q < 100) (hi : i (ix3 b k 0) = BitVec.ofNat 32 q) :
   Host.gather gather_S16x100_S16x5x1_S16x5_n_1_0_0_1_2_11 x i (ix2 b k) = x (ix2 b ⟨q, hq⟩) := by
  have h := start_at gather_S16x100_S16x5x1_S16x5_n_1_0_0_1_2_11 (ix2 b k) i (1 : Fin 2) (by decide) q (by omega) (fun c => by
    refine Eq.trans (congrArg i ?_) hi
    funext a
    match a with
    | ⟨0, _⟩ => rfl
    | ⟨1, _⟩ => rfl
    | ⟨2, _⟩ => exact Fin.ext (Nat.lt_one_iff.mp c.isLt))
  unfold Host.gather
  refine congrArg x (funext fun a => Fin.ext ?_)
  match a with
  | ⟨0, _⟩ => exact Nat.zero_add _
  | ⟨1, _⟩ =>
    show GatherDims.start gather_S16x100_S16x5x1_S16x5_n_1_0_0_1_2_11 (ix2 b k) i (1 : Fin 2) + 0 + 0 = q
    rw [h]
    show min q 99 + 0 + 0 = q
    omega
theorem g2 (x : FVec Ideal S16x20x1024 .f32) (i : IVec S16x20x1 32) (b : Fin 16) (k : Fin 20) (l : Fin 1024) (q : ℕ) (hq : q < 20) (hi : i (ix3 b k 0) = BitVec.ofNat 32 q) :
   Host.gather gather_S16x20x1024_S16x20x1_S16x20x1024_2_1_0_0_1_2_111024 x i (ix3 b k l) = x (ix3 b ⟨q, hq⟩ l) := by
  have h := start_at gather_S16x20x1024_S16x20x1_S16x20x1024_2_1_0_0_1_2_111024 (ix3 b k l) i (1 : Fin 3) (by decide) q (by omega) (fun c => by
    refine Eq.trans (congrArg i ?_) hi
    funext a
    match a with
    | ⟨0, _⟩ => rfl
    | ⟨1, _⟩ => rfl
    | ⟨2, _⟩ => exact Fin.ext (Nat.lt_one_iff.mp c.isLt))
  unfold Host.gather
  refine congrArg x (funext fun a => Fin.ext ?_)
  match a with
  | ⟨0, _⟩ => exact Nat.zero_add _
  | ⟨1, _⟩ =>
    show GatherDims.start gather_S16x20x1024_S16x20x1_S16x20x1024_2_1_0_0_1_2_111024 (ix3 b k l) i (1 : Fin 3) + 0 + 0 = q
    rw [h]
    show min q 19 + 0 + 0 = q
    omega
  | ⟨2, _⟩ => exact Nat.zero_add _
theorem g2' (x : IVec S16x20x12 32) (i : IVec S16x20x1 32) (b : Fin 16) (k : Fin 20) (l : Fin 12) (q : ℕ) (hq : q < 20) (hi : i (ix3 b k 0) = BitVec.ofNat 32 q) :
   Host.gather gather_S16x20x12_S16x20x1_S16x20x12_2_1_0_0_1_2_1112 x i (ix3 b k l) = x (ix3 b ⟨q, hq⟩ l) := by
  have h := start_at gather_S16x20x12_S16x20x1_S16x20x12_2_1_0_0_1_2_1112 (ix3 b k l) i (1 : Fin 3) (by decide) q (by omega) (fun c => by
    refine Eq.trans (congrArg i ?_) hi
    funext a
    match a with
    | ⟨0, _⟩ => rfl
    | ⟨1, _⟩ => rfl
    | ⟨2, _⟩ => exact Fin.ext (Nat.lt_one_iff.mp c.isLt))
  unfold Host.gather
  refine congrArg x (funext fun a => Fin.ext ?_)
  match a with
  | ⟨0, _⟩ => exact Nat.zero_add _
  | ⟨1, _⟩ =>
    show GatherDims.start gather_S16x20x12_S16x20x1_S16x20x12_2_1_0_0_1_2_1112 (ix3 b k l) i (1 : Fin 3) + 0 + 0 = q
    rw [h]
    show min q 19 + 0 + 0 = q
    omega
  | ⟨2, _⟩ => exact Nat.zero_add _
theorem g3 (x : FVec Ideal S1000x1024 .f32) (i : IVec S320x1 32) (b : Fin 320) (l : Fin 1024) (q : ℕ) (hq : q < 1000) (hi : i (ix2 b 0) = BitVec.ofNat 32 q) :
   Host.gather gather_S1000x1024_S320x1_S320x1024_1_0_n_n_0_1_11024 x i (ix2 b l) = x (ix2 ⟨q, hq⟩ l) := by
  have h := start_at gather_S1000x1024_S320x1_S320x1024_1_0_n_n_0_1_11024 (ix2 b l) i (0 : Fin 2) (by decide) q (by omega) (fun c => by
    refine Eq.trans (congrArg i ?_) hi
    funext a
    match a with
    | ⟨0, _⟩ => rfl
    | ⟨1, _⟩ => exact Fin.ext (Nat.lt_one_iff.mp c.isLt))
  unfold Host.gather
  refine congrArg x (funext fun a => Fin.ext ?_)
  match a with
  | ⟨0, _⟩ =>
    show GatherDims.start gather_S1000x1024_S320x1_S320x1024_1_0_n_n_0_1_11024 (ix2 b l) i (0 : Fin 2) + 0 + 0 = q
    rw [h]
    show min q 999 + 0 + 0 = q
    omega
  | ⟨1, _⟩ => exact Nat.zero_add _
/-- A word divided by five, rounded down. -/
theorem floor5 : ∀ q : Fin 100, Scalar.select (IntOp.andi (IntOp.cmpi .ne (if BitVec.ofNat 32 q.val = 0 then 0 else if (BitVec.ofNat 32 q.val).msb then -1 else 1) (1#32)) (IntOp.cmpi .ne (IntOp.remsi .host (BitVec.ofNat 32 q.val) 5#32) 0#32))
    (IntOp.subi (IntOp.divsi .host (BitVec.ofNat 32 q.val) 5#32) 1#32) (IntOp.divsi .host (BitVec.ofNat 32 q.val) 5#32) = BitVec.ofNat 32 (q.val / 5) := by
  decide +kernel

theorem topK1 (x : FVec Ideal S16x100 .f32) (b : Fin 16) (k : Fin 5) :
    (Host.topK S16x5 1 (FloatOps.cmpfTotal (φ := .f32) .gt) x sliceFits_S16x100_S16x5).1 (ix2 b k) = x (ix2 b (top (fun v => x (ix2 b v)) ⟨k.val, by omega⟩)) ∧
    (Host.topK S16x5 1 (FloatOps.cmpfTotal (φ := .f32) .gt) x sliceFits_S16x100_S16x5).2 (ix2 b k) = BitVec.ofNat 32 (top (fun v => x (ix2 b v)) ⟨k.val, by omega⟩).val := by
  have al : ∀ v : Fin 100, Shape.Idx.along (s := S16x100) (ix2 b (⟨k.val, by omega⟩ : Fin 100)) (1 : Fin 2) v = ix2 b v := by
    intro v; unfold Shape.Idx.along; funext a
    match a with
    | ⟨0, _⟩ => rfl
    | ⟨1, _⟩ => rfl
  have h := topK_at 1 (by decide) x sliceFits_S16x100_S16x5 (ix2 b k) (ix2 b (⟨k.val, by omega⟩ : Fin 100)) (fun a => by
    match a with
    | ⟨0, _⟩ => rfl
    | ⟨1, _⟩ => rfl)
  have ef : (fun v : Fin 100 => x (Shape.Idx.along (s := S16x100) (ix2 b (⟨k.val, by omega⟩ : Fin 100)) (1 : Fin 2) v)) = fun v => x (ix2 b v) := funext fun v => congrArg x (al v)
  refine ⟨h.1.trans ?_, h.2.trans ?_⟩
  · refine (congrArg x (al _)).trans ?_
    exact congrArg (fun f : Fin 100 → EReal => x (ix2 b (top f (⟨k.val, by omega⟩ : Fin 100)))) ef
  · exact congrArg (fun f : Fin 100 → EReal => BitVec.ofNat 32 (top f (⟨k.val, by omega⟩ : Fin 100)).val) ef

theorem topK2 (x : FVec Ideal S16x4x1000 .f32) (b : Fin 16) (s : Fin 4) (k : Fin 5) :
    (Host.topK S16x4x5 2 (FloatOps.cmpfTotal (φ := .f32) .gt) x sliceFits_S16x4x1000_S16x4x5).1 (ix3 b s k) = x (ix3 b s (top (fun v => x (ix3 b s v)) ⟨k.val, by omega⟩)) ∧
    (Host.topK S16x4x5 2 (FloatOps.cmpfTotal (φ := .f32) .gt) x sliceFits_S16x4x1000_S16x4x5).2 (ix3 b s k) = BitVec.ofNat 32 (top (fun v => x (ix3 b s v)) ⟨k.val, by omega⟩).val := by
  have al : ∀ v : Fin 1000, Shape.Idx.along (s := S16x4x1000) (ix3 b s (⟨k.val, by omega⟩ : Fin 1000)) (2 : Fin 3) v = ix3 b s v := by
    intro v; unfold Shape.Idx.along; funext a
    match a with
    | ⟨0, _⟩ => rfl
    | ⟨1, _⟩ => rfl
    | ⟨2, _⟩ => rfl
  have h := topK_at 2 (by decide) x sliceFits_S16x4x1000_S16x4x5 (ix3 b s k) (ix3 b s (⟨k.val, by omega⟩ : Fin 1000)) (fun a => by
    match a with
    | ⟨0, _⟩ => rfl
    | ⟨1, _⟩ => rfl
    | ⟨2, _⟩ => rfl)
  have ef : (fun v : Fin 1000 => x (Shape.Idx.along (s := S16x4x1000) (ix3 b s (⟨k.val, by omega⟩ : Fin 1000)) (2 : Fin 3) v)) = fun v => x (ix3 b s v) := funext fun v => congrArg x (al v)
  refine ⟨h.1.trans ?_, h.2.trans ?_⟩
  · refine (congrArg x (al _)).trans ?_
    exact congrArg (fun f : Fin 1000 → EReal => x (ix3 b s (top f (⟨k.val, by omega⟩ : Fin 1000)))) ef
  · exact congrArg (fun f : Fin 1000 → EReal => BitVec.ofNat 32 (top f (⟨k.val, by omega⟩ : Fin 1000)).val) ef

theorem g3' (x : FVec Ideal S1000x1024 .f32) (i : IVec S16x1 32) (b : Fin 16) (l : Fin 1024) (q : ℕ) (hq : q < 1000) (hi : i (ix2 b 0) = BitVec.ofNat 32 q) :
   Host.gather gather_S1000x1024_S16x1_S16x1024_1_0_n_n_0_1_11024 x i (ix2 b l) = x (ix2 ⟨q, hq⟩ l) := by
  have h := start_at gather_S1000x1024_S16x1_S16x1024_1_0_n_n_0_1_11024 (ix2 b l) i (0 : Fin 2) (by decide) q (by omega) (fun c => by
    refine Eq.trans (congrArg i ?_) hi
    funext a
    match a with
    | ⟨0, _⟩ => rfl
    | ⟨1, _⟩ => exact Fin.ext (Nat.lt_one_iff.mp c.isLt))
  unfold Host.gather
  refine congrArg x (funext fun a => Fin.ext ?_)
  match a with
  | ⟨0, _⟩ =>
    show GatherDims.start gather_S1000x1024_S16x1_S16x1024_1_0_n_n_0_1_11024 (ix2 b l) i (0 : Fin 2) + 0 + 0 = q
    rw [h]
    show min q 999 + 0 + 0 = q
    omega
  | ⟨1, _⟩ => exact Nat.zero_add _

/-- A small word is not below zero. -/
theorem wrap_small {α : Type} (q : ℕ) (hq : q < 2 ^ 31) (x y : α) : Scalar.select (IntOp.cmpi .slt (BitVec.ofNat 32 q) 0#32) x y = y := by
  have e : IntOp.cmpi .slt (BitVec.ofNat 32 q) 0#32 = 0#1 := by
    unfold IntOp.cmpi
    rw [BitVec.slt_eq_decide, ofNat_toInt q hq, decide_eq_false (by rw [show (0#32 : BitVec 32).toInt = 0 from rfl]; omega)]
    rfl
  rw [e]; rfl

/-- A word within bounds is found within bounds. -/
theorem in_bounds (q n : ℕ) (hn : n < 2 ^ 31) (hq : q ≤ n) (c : BitVec 32) (hc : c = BitVec.ofNat 32 n) :
    IntOp.andi (IntOp.cmpi .sge (BitVec.ofNat 32 q) 0#32) (IntOp.cmpi .sle (BitVec.ofNat 32 q) c) = 1#1 := by
  subst hc
  have e1 : IntOp.cmpi .sge (BitVec.ofNat 32 q) 0#32 = 1#1 := by
    show BitVec.ofBool ((0#32).sle (BitVec.ofNat 32 q)) = 1#1
    rw [BitVec.sle_eq_decide, ofNat_toInt q (by omega), decide_eq_true (by rw [show (0#32 : BitVec 32).toInt = 0 from rfl]; omega)]
    rfl
  have e2 : IntOp.cmpi .sle (BitVec.ofNat 32 q) (BitVec.ofNat 32 n) = 1#1 := by
    show BitVec.ofBool ((BitVec.ofNat 32 q).sle (BitVec.ofNat 32 n)) = 1#1
    rw [BitVec.sle_eq_decide, ofNat_toInt q (by omega), ofNat_toInt n hn, decide_eq_true (by omega)]
    rfl
  rw [e1, e2]; rfl

theorem fold_unit (f : Fin 1 → BitVec 1) (h : f 0 = 1#1) : Finset.fold IntOp.andi 1#1 f Finset.univ = 1#1 := by
  show IntOp.andi (f 0) 1#1 = 1#1
  rw [h]; rfl

end Cert.Beam.Ref

end
-- ==== Proof.RefArr.lean ====
module

public import proofs.«01_k».proof.Proof.RefOps
public import proofs.«01_k».proof.Proof.Data
public import proofs.«01_k».proof.Proof.Gen.ReferenceIdeal.Run
public import Idealize.ShloMosaic.Lib.Pointwise
public import Idealize.ShloMosaic.Lib.ReduceAll

/-! The reference's step, piece by piece, on arrays. -/

@[expose] public section

set_option maxRecDepth 16384

noncomputable section

namespace Cert.Beam.Ref

open Idealize.ShloMosaic Cert.ReferenceIdeal Cert.ReferenceIdeal.Gen

/-- The scores into a state. -/
def masked (s : Fin 4) (x6 : IVec S16x4x4x5x1000 1) (x57 : FVec Ideal S16x4x5x1000 .f32) (h : S16x4x4x5x1000.Slices (![0, 0, s.val, 0, 0]) S16x4x1x5x1000) : FVec Ideal S16x4x5x1000 .f32 :=
  select (shapeCast S16x4x5x1000 (extractStridedSlice S16x4x1x5x1000 ![0, 0, s.val, 0, 0] x6 h) shapeCasts_S16x4x1x5x1000_S16x4x5x1000) x57 (broadcastInDim S16x4x5x1000 ![] bcast_S_S16x4x5x1000 (id (constant S_ .f32 0xE0AD78EC#32)))

theorem masked_at (s : Fin 4) (x6 : IVec S16x4x4x5x1000 1) (x57 : FVec Ideal S16x4x5x1000 .f32) (h : S16x4x4x5x1000.Slices (![0, 0, s.val, 0, 0]) S16x4x1x5x1000)
    (b : Fin 16) (p : Fin 4) (j : Fin 5) (v : Fin 1000) :
    masked s x6 x57 h (ix4 b p j v) = if x6 (ix5 b p s j v) = 1#1 then x57 (ix4 b p j v) else neg := by
  unfold masked
  dsimp only [id_eq]
  pointwise []
  rfl

/-- The candidates' scores. -/
def summed (M : FVec Ideal S16x4x5x1000 .f32) (x10 : FVec Ideal S16x4x5 .f32) : FVec Ideal S16x100 .f32 :=
  shapeCast S16x100 (addf (Host.topK S16x4x5x5 3 (FloatOps.cmpfTotal .gt) M sliceFits_S16x4x5x1000_S16x4x5x5).1
    (broadcastInDim S16x4x5x5 ![0, 1, 2, 3] bcast_S16x4x5x1_S16x4x5x5_0_1_2_3 (broadcastInDim S16x4x5x1 ![0, 1, 2] bcast_S16x4x5_S16x4x5x1_0_1_2 x10))) shapeCasts_S16x4x5x5_S16x100

theorem summed_at (M : FVec Ideal S16x4x5x1000 .f32) (x10 : FVec Ideal S16x4x5 .f32) (b : Fin 16) (q : Fin 100) :
    summed M x10 (ix2 b q) = M (ix4 b ⟨q.val / 25, by omega⟩ ⟨q.val / 5 % 5, by omega⟩ (top (fun v => M (ix4 b ⟨q.val / 25, by omega⟩ ⟨q.val / 5 % 5, by omega⟩ v)) ⟨q.val % 5, by omega⟩))
      + x10 (ix3 b ⟨q.val / 25, by omega⟩ ⟨q.val / 5 % 5, by omega⟩) := by
  pointwise [summed]
  rw [(topK3 M b _ _ _).1]

/-- The chosen candidates. -/
def chosen (S : FVec Ideal S16x100 .f32) : IVec S16x5 32 := (Host.topK S16x5 1 (FloatOps.cmpfTotal .gt) S sliceFits_S16x100_S16x5).2

/-- The chosen candidates, as places to read at. -/
def places (c : IVec S16x5 32) : IVec S16x5x1 32 :=
  shapeCast S16x5x1 (select (cmpi .slt c (broadcastInDim S16x5 ![] bcast_S_S16x5 (constantI S_ 32 0#32))) (addi c (broadcastInDim S16x5 ![] bcast_S_S16x5 (constantI S_ 32 100#32))) c) shapeCasts_S16x5_S16x5x1

theorem places_at (c : IVec S16x5 32) (b : Fin 16) (k : Fin 5) (q : ℕ) (hq : q < 100) (hc : c (ix2 b k) = BitVec.ofNat 32 q) (z : Fin 1) :
    places c (ix3 b k z) = BitVec.ofNat 32 q := by
  pointwise [places]
  rw [hc, wrap_small q (by omega)]

/-- The tokens of the chosen candidates. -/
def taken (M : FVec Ideal S16x4x5x1000 .f32) (w : IVec S16x5x1 32) : IVec S16x5 32 :=
  select (Host.reduce IntOp.andi (andi (cmpi .sge w (broadcastInDim S16x5x1 ![] bcast_S_S16x5x1 (constantI S_ 32 0#32))) (cmpi .sle w (broadcastInDim S16x5x1 ![0, 1, 2] bcast_S1x1x1_S16x5x1_0_1_2 (broadcastInDim S1x1x1 ![2] bcast_S1_S1x1x1_2 (constantI S1 32 99#32))))) (constantI S_ 1 1#1) reducesTo_S16x5x1_S16x5_d2 h_S_)
    (Host.gather gather_S16x100_S16x5x1_S16x5_n_1_0_0_1_2_11 (shapeCast S16x100 (Host.topK S16x4x5x5 3 (FloatOps.cmpfTotal .gt) M sliceFits_S16x4x5x1000_S16x4x5x5).2 shapeCasts_S16x4x5x5_S16x100) w)
    (broadcastInDim S16x5 ![] bcast_S_S16x5 (constantI S_ 32 2147483648#32))

theorem taken_at (M : FVec Ideal S16x4x5x1000 .f32) (w : IVec S16x5x1 32) (b : Fin 16) (k : Fin 5) (q : ℕ) (hq : q < 100) (hw : ∀ z : Fin 1, w (ix3 b k z) = BitVec.ofNat 32 q) :
    taken M w (ix2 b k) = BitVec.ofNat 32 (top (fun v => M (ix4 b ⟨q / 25, by omega⟩ ⟨q / 5 % 5, by omega⟩ v)) ⟨q % 5, by omega⟩).val := by
  pointwise [taken]
  rw [fold_unit _ (by rw [hw]; exact in_bounds q 99 (by omega) (by omega) _ rfl), g1 _ w b k q hq (hw 0)]
  pointwise []
  rw [(topK3 M b _ _ _).2]

/-- Four rows, one under another. -/
def stack4 {α : Type} (f0 f1 f2 f3 : S16x5.Idx → α) : S16x4x5.Idx → α :=
  concatenate S16x4x5 1 [⟨S16x1x5, broadcastInDim S16x1x5 ![0, 2] bcast_S16x5_S16x1x5_0_2 f0⟩, ⟨S16x1x5, broadcastInDim S16x1x5 ![0, 2] bcast_S16x5_S16x1x5_0_2 f1⟩, ⟨S16x1x5, broadcastInDim S16x1x5 ![0, 2] bcast_S16x5_S16x1x5_0_2 f2⟩, ⟨S16x1x5, broadcastInDim S16x1x5 ![0, 2] bcast_S16x5_S16x1x5_0_2 f3⟩] concatenates_S16x1x5_S16x1x5_S16x1x5_S16x1x5_S16x4x5_d1

theorem stack4_at {α : Type} (f : Fin 4 → S16x5.Idx → α) (b : Fin 16) (s : Fin 4) (k : Fin 5) : stack4 (f 0) (f 1) (f 2) (f 3) (ix3 b s k) = f s (ix2 b k) := by
  pointwise [stack4]
  fin_vals s with hs <;> simp only [hs, Nat.reduceSub, Nat.reduceLT, ↓reduceDIte] <;> exact congrArg (fun s => f s (ix2 b k)) (Fin.ext hs.symm)

/-- The beams the chosen candidates continue. -/
def beamsOf (c : IVec S16x4x5 32) : IVec S16x20 32 :=
  shapeCast S16x20 (select (andi (cmpi .ne (signi c) (broadcastInDim S16x4x5 ![] bcast_S_S16x4x5 (signi (id (constantI S_ 32 5#32))))) (cmpi .ne (Host.remsi c (broadcastInDim S16x4x5 ![] bcast_S_S16x4x5 (id (constantI S_ 32 5#32)))) (broadcastInDim S16x4x5 ![] bcast_S_S16x4x5 (constantI S_ 32 0#32)))) (subi (Host.divsi c (broadcastInDim S16x4x5 ![] bcast_S_S16x4x5 (id (constantI S_ 32 5#32)))) (broadcastInDim S16x4x5 ![] bcast_S_S16x4x5 (constantI S_ 32 1#32))) (Host.divsi c (broadcastInDim S16x4x5 ![] bcast_S_S16x4x5 (id (constantI S_ 32 5#32))))) shapeCasts_S16x4x5_S16x20

theorem beamsOf_at (c : IVec S16x4x5 32) (b : Fin 16) (j : Fin 20) (q : ℕ) (hq : q < 100) (hc : c (ix3 b ⟨j.val / 5, by omega⟩ ⟨j.val % 5, by omega⟩) = BitVec.ofNat 32 q) :
    beamsOf c (ix2 b j) = BitVec.ofNat 32 (q / 5) := by
  unfold beamsOf
  dsimp only [id_eq]
  pointwise []
  rw [hc]
  exact floor5 ⟨q, hq⟩

/-- The beams, as places to read at. -/
def froms (p : IVec S16x20 32) : IVec S16x20x1 32 :=
  select (cmpi .slt (broadcastInDim S16x20x1 ![0, 1] bcast_S16x20_S16x20x1_0_1 p) (broadcastInDim S16x20x1 ![] bcast_S_S16x20x1 (constantI S_ 32 0#32))) (addi (broadcastInDim S16x20x1 ![0, 1] bcast_S16x20_S16x20x1_0_1 p) (broadcastInDim S16x20x1 ![] bcast_S_S16x20x1 (constantI S_ 32 20#32))) (broadcastInDim S16x20x1 ![0, 1] bcast_S16x20_S16x20x1_0_1 p)

theorem froms_at (p : IVec S16x20 32) (b : Fin 16) (j : Fin 20) (q : ℕ) (hq : q < 20) (hp : p (ix2 b j) = BitVec.ofNat 32 q) (z : Fin 1) :
    froms p (ix3 b j z) = BitVec.ofNat 32 q := by
  pointwise [froms]
  rw [hp, wrap_small q (by omega)]

/-- The places lie within the beams. -/
def inside (w : IVec S16x20x1 32) : IVec S16x20 1 :=
  Host.reduce IntOp.andi (andi (cmpi .sge w (broadcastInDim S16x20x1 ![] bcast_S_S16x20x1 (constantI S_ 32 0#32))) (cmpi .sle w (broadcastInDim S16x20x1 ![0, 1, 2] bcast_S1x1x1_S16x20x1_0_1_2 (broadcastInDim S1x1x1 ![2] bcast_S1_S1x1x1_2 (constantI S1 32 19#32))))) (constantI S_ 1 1#1) reducesTo_S16x20x1_S16x20_d2 h_S_

theorem inside_at (w : IVec S16x20x1 32) (b : Fin 16) (j : Fin 20) (q : ℕ) (hq : q < 20) (hw : ∀ z : Fin 1, w (ix3 b j z) = BitVec.ofNat 32 q) : inside w (ix2 b j) = 1#1 := by
  pointwise [inside]
  exact fold_unit _ (by rw [hw]; exact in_bounds q 19 (by omega) (by omega) _ rfl)

/-- The hidden rows of the beams continued. -/
def carried (H : FVec Ideal S320x1024 .f32) (w : IVec S16x20x1 32) : FVec Ideal S320x1024 .f32 :=
  shapeCast S320x1024 (select (broadcastInDim S16x20x1024 ![0, 1] bcast_S16x20_S16x20x1024_0_1 (inside w)) (Host.gather gather_S16x20x1024_S16x20x1_S16x20x1024_2_1_0_0_1_2_111024 (shapeCast S16x20x1024 H shapeCasts_S320x1024_S16x20x1024) w) (broadcastInDim S16x20x1024 ![] bcast_S_S16x20x1024 (constant S_ .f32 0x7FC00000#32))) shapeCasts_S16x20x1024_S320x1024

theorem carried_at (H : FVec Ideal S320x1024 .f32) (w : IVec S16x20x1 32) (r : Fin 320) (l : Fin 1024) (q : ℕ) (hq : q < 20)
    (hw : ∀ z : Fin 1, w (ix3 (⟨r.val / 20, by omega⟩ : Fin 16) (⟨r.val % 20, by omega⟩ : Fin 20) z) = BitVec.ofNat 32 q) :
    carried H w (ix2 r l) = H (ix2 ⟨r.val / 20 * 20 + q, by omega⟩ l) := by
  pointwise [carried]
  rw [inside_at w _ _ q hq hw, g2 _ w _ _ l q hq (hw 0)]
  pointwise []

/-- The beams' tokens so far. -/
def written (n : IVec S_ 32) (t : IVec S16x20 32) (x : IVec S16x20x12 32) (w : IVec S16x20x1 32) : IVec S16x20x12 32 :=
  select (broadcastInDim S16x20x12 ![2] bcast_S12_S16x20x12_2 (cmpi .eq (iotaInDim S12 32 0) (broadcastInDim S12 ![] bcast_S_S12 (id (addi n (constantI S_ 32 1#32)))))) (broadcastInDim S16x20x12 ![0, 1, 2] bcast_S16x20x1_S16x20x12_0_1_2 (broadcastInDim S16x20x1 ![0, 1] bcast_S16x20_S16x20x1_0_1 t))
    (select (broadcastInDim S16x20x12 ![0, 1] bcast_S16x20_S16x20x12_0_1 (inside w)) (Host.gather gather_S16x20x12_S16x20x1_S16x20x12_2_1_0_0_1_2_1112 x w) (broadcastInDim S16x20x12 ![] bcast_S_S16x20x12 (constantI S_ 32 2147483648#32)))

theorem written_at (n : IVec S_ 32) (t : IVec S16x20 32) (x : IVec S16x20x12 32) (w : IVec S16x20x1 32) (b : Fin 16) (j : Fin 20) (i : Fin 12) (k : ℕ) (hk : k < 11)
    (hn : n ix0 = BitVec.ofNat 32 k) (q : ℕ) (hq : q < 20) (hw : ∀ z : Fin 1, w (ix3 b j z) = BitVec.ofNat 32 q) :
    written n t x w (ix3 b j i) = if i.val = k + 1 then t (ix2 b j) else x (ix3 b ⟨q, hq⟩ i) := by
  unfold written
  dsimp only [id_eq]
  pointwise []
  have e : IntOp.addi (n ix0) 1#32 = BitVec.ofNat 32 (k + 1) := by
    rw [hn]; exact (BitVec.ofNat_add k 1).symm
  rw [e, sel_ofNat _ _ (by omega) (by omega), inside_at w _ _ q hq hw, g2' _ w _ _ i q hq (hw 0)]
  rfl

end Cert.Beam.Ref

end
-- ==== Proof.RefCell.lean ====
module

public import proofs.«01_k».proof.Proof.RefArr
public import proofs.«01_k».proof.Proof.Data
public import proofs.«01_k».proof.Proof.Gen.ReferenceIdeal.Run
public import Idealize.ShloMosaic.Lib.Pointwise
public import Idealize.ShloMosaic.Lib.ReduceAll

/-! The reference's hidden rows and log-probabilities, on arrays. -/

@[expose] public section

set_option maxRecDepth 16384

noncomputable section

namespace Cert.Beam.Ref

open Idealize.ShloMosaic Cert.ReferenceIdeal Cert.ReferenceIdeal.Gen

/-- The new hidden rows of all beams. -/
def hiddenA (h : FVec Ideal S320x1024 .f32) (wh : FVec Ideal S1024x1024 .f32) (e : FVec Ideal S1000x1024 .f32) (t : IVec S320 32) (f : FVec Ideal S320x1024 .f32) (wf : FVec Ideal S1024x1024 .f32) : FVec Ideal S320x1024 .f32 :=
  Host.tanh (addf (addf (Host.dotGeneral dot_S320x1024_S1024x1024_S320x1024_1_0_0_1_n_n none h wh) (Host.gather gather_S1000x1024_S320x1_S320x1024_1_0_n_n_0_1_11024 e (broadcastInDim S320x1 ![0] bcast_S320_S320x1_0 (select (cmpi .slt t (broadcastInDim S320 ![] bcast_S_S320 (constantI S_ 32 0#32))) (addi t (broadcastInDim S320 ![] bcast_S_S320 (constantI S_ 32 1000#32))) t)))) (Host.dotGeneral dot_S320x1024_S1024x1024_S320x1024_1_0_0_1_n_n none f wf))

theorem hiddenA_at (h : FVec Ideal S320x1024 .f32) (wh : FVec Ideal S1024x1024 .f32) (e : FVec Ideal S1000x1024 .f32) (t : IVec S320 32) (f : FVec Ideal S320x1024 .f32) (wf : FVec Ideal S1024x1024 .f32)
    (r : Fin 320) (l : Fin 1024) (q : ℕ) (hq : q < 1000) (ht : t (ix1 r) = BitVec.ofNat 32 q) :
    hiddenA h wh e t f wf (ix2 r l) = Ideal.tanh ((∑ x, h (ix2 r x) * wh (ix2 x l)) + e (ix2 ⟨q, hq⟩ l) + ∑ x, f (ix2 r x) * wf (ix2 x l)) := by
  pointwise [hiddenA]
  rw [g3 e _ r l q hq]
  pointwise []
  rw [ht, wrap_small q (by omega)]

/-- The new hidden rows of the first step. -/
def hidden0A (h : FVec Ideal S16x1024 .f32) (wh : FVec Ideal S1024x1024 .f32) (e : FVec Ideal S1000x1024 .f32) (t : IVec S16 32) (f : FVec Ideal S16x1024 .f32) (wf : FVec Ideal S1024x1024 .f32) : FVec Ideal S16x1024 .f32 :=
  Host.tanh (addf (addf (Host.dotGeneral dot_S16x1024_S1024x1024_S16x1024_1_0_0_1_n_n none h wh) (Host.gather gather_S1000x1024_S16x1_S16x1024_1_0_n_n_0_1_11024 e (broadcastInDim S16x1 ![0] bcast_S16_S16x1_0 (select (cmpi .slt t (broadcastInDim S16 ![] bcast_S_S16 (constantI S_ 32 0#32))) (addi t (broadcastInDim S16 ![] bcast_S_S16 (constantI S_ 32 1000#32))) t)))) (Host.dotGeneral dot_S16x1024_S1024x1024_S16x1024_1_0_0_1_n_n none f wf))

theorem hidden0A_at (h : FVec Ideal S16x1024 .f32) (wh : FVec Ideal S1024x1024 .f32) (e : FVec Ideal S1000x1024 .f32) (t : IVec S16 32) (f : FVec Ideal S16x1024 .f32) (wf : FVec Ideal S1024x1024 .f32)
    (r : Fin 16) (l : Fin 1024) (q : ℕ) (hq : q < 1000) (ht : t (ix1 r) = BitVec.ofNat 32 q) :
    hidden0A h wh e t f wf (ix2 r l) = Ideal.tanh ((∑ x, h (ix2 r x) * wh (ix2 x l)) + e (ix2 ⟨q, hq⟩ l) + ∑ x, f (ix2 r x) * wf (ix2 x l)) := by
  pointwise [hidden0A]
  rw [g3' e _ r l q hq]
  pointwise []
  rw [ht, wrap_small q (by omega)]

/-- Logits less their row's largest. -/
def shiftedA (z : FVec Ideal S320x1000 .f32) : FVec Ideal S320x1000 .f32 :=
  subf z (broadcastInDim S320x1000 ![0, 1] bcast_S320x1_S320x1000_0_1 (broadcastInDim S320x1 ![0] bcast_S320_S320x1_0 (maximumf (broadcastInDim S320 ![] bcast_S_S320 (constant S_ .f32 0xFF800000#32)) (Host.reduce FloatOps.maximumf z (constant S_ .f32 0xFF800000#32) reducesTo_S320x1000_S320_d1 h_S_))))

/-- The log-probabilities, a finished beam's replaced. -/
def cleanA (z : FVec Ideal S320x1000 .f32) (t : IVec S320 32) (a : FVec Ideal S1x1000 .f32) : FVec Ideal S16x4x5x1000 .f32 :=
  shapeCast S16x4x5x1000 (select (broadcastInDim S320x1000 ![0, 1] bcast_S320x1_S320x1000_0_1 (broadcastInDim S320x1 ![0] bcast_S320_S320x1_0 (cmpi .eq t (broadcastInDim S320 ![] bcast_S_S320 (constantI S_ 32 2#32))))) (broadcastInDim S320x1000 ![0, 1] bcast_S1x1000_S320x1000_0_1 (id a)) (subf (shiftedA z) (broadcastInDim S320x1000 ![0, 1] bcast_S320x1_S320x1000_0_1 (Host.log (broadcastInDim S320x1 ![0] bcast_S320_S320x1_0 (Host.reduceAdd (Host.exp (shiftedA z)) (constant S_ .f32 0x00000000#32) reducesTo_S320x1000_S320_d1 h_S_)))))) shapeCasts_S320x1000_S16x4x5x1000

theorem max_bot (n : ℕ) (z : Fin n → EReal) : max (Ideal.ofBits FTy.f32 4286578688#32) (Finset.fold max (Ideal.ofBits FTy.f32 4286578688#32) z Finset.univ) = rowMax z := by
  rw [show Ideal.ofBits FTy.f32 4286578688#32 = ⊥ from ofBits_bot]
  exact max_eq_right bot_le

theorem cleanA_at (z : FVec Ideal S320x1000 .f32) (t : IVec S320 32) (a : FVec Ideal S1x1000 .f32) (b : Fin 16) (s : Fin 4) (k : Fin 5) (v : Fin 1000) (q : ℕ) (hq : q < 1000)
    (ht : t (ix1 (⟨b.val * 20 + s.val * 5 + k.val, by omega⟩ : Fin 320)) = BitVec.ofNat 32 q) :
    cleanA z t a (ix4 b s k v) = if q = 2 then a (ix2 0 v) else lsm (fun v => z (ix2 ⟨b.val * 20 + s.val * 5 + k.val, by omega⟩ v)) v := by
  unfold cleanA
  dsimp only [id_eq]
  pointwise [shiftedA]
  rw [ht, sel_ofNat _ _ (by omega) (by omega)]
  simp only [max_bot]
  rfl

/-- The first step's log-probabilities. -/
def shifted0A (z : FVec Ideal S16x1000 .f32) : FVec Ideal S16x1000 .f32 :=
  subf z (broadcastInDim S16x1000 ![0, 1] bcast_S16x1_S16x1000_0_1 (broadcastInDim S16x1 ![0] bcast_S16_S16x1_0 (maximumf (broadcastInDim S16 ![] bcast_S_S16 (constant S_ .f32 0xFF800000#32)) (Host.reduce FloatOps.maximumf z (constant S_ .f32 0xFF800000#32) reducesTo_S16x1000_S16_d1 h_S_))))

/-- The first step's scores. -/
def scores0A (z : FVec Ideal S16x1000 .f32) (x3 : IVec S16x4x4x1000 1) : FVec Ideal S16x4x1000 .f32 :=
  select (shapeCast S16x4x1000 (extractStridedSlice S16x1x4x1000 ![0, 0, 0, 0] x3 slices_S16x4x4x1000_S16x1x4x1000_0_0_0_0) shapeCasts_S16x1x4x1000_S16x4x1000)
    (broadcastInDim S16x4x1000 ![0, 1, 2] bcast_S16x1x1000_S16x4x1000_0_1_2 (broadcastInDim S16x1x1000 ![0, 2] bcast_S16x1000_S16x1x1000_0_2
      (subf (shifted0A z) (broadcastInDim S16x1000 ![0, 1] bcast_S16x1_S16x1000_0_1 (Host.log (broadcastInDim S16x1 ![0] bcast_S16_S16x1_0 (Host.reduceAdd (Host.exp (shifted0A z)) (constant S_ .f32 0x00000000#32) reducesTo_S16x1000_S16_d1 h_S_)))))))
    (broadcastInDim S16x4x1000 ![] bcast_S_S16x4x1000 (id (constant S_ .f32 0xE0AD78EC#32)))

theorem scores0A_at (z : FVec Ideal S16x1000 .f32) (x3 : IVec S16x4x4x1000 1) (b : Fin 16) (s : Fin 4) (v : Fin 1000) :
    scores0A z x3 (ix3 b s v) = if x3 (ix4 b 0 s v) = 1#1 then lsm (fun v => z (ix2 b v)) v else neg := by
  unfold scores0A
  dsimp only [id_eq]
  pointwise [shifted0A]
  simp only [max_bot]
  rfl

end Cert.Beam.Ref

end
-- ==== Proof.RefStep.lean ====
module

public import proofs.«01_k».proof.Proof.RefCell
public import proofs.«01_k».proof.Proof.Data
public import proofs.«01_k».proof.Proof.Gen.ReferenceIdeal.Run
public import Idealize.ShloMosaic.Lib.Pointwise
public import Idealize.ShloMosaic.Lib.ReduceAll

/-! One step of the reference is one step of the search. -/

@[expose] public section

set_option maxRecDepth 16384

noncomputable section

namespace Cert.Beam.Ref

open Idealize.ShloMosaic Cert.ReferenceIdeal Cert.ReferenceIdeal.Gen

/-- What the reference carries from step to step. -/
structure Carried where
  /-- the embedding -/
  e : FVec Ideal S1000x1024 .f32
  /-- the recurrent weights -/
  wh : FVec Ideal S1024x1024 .f32
  /-- the features, beam by beam -/
  f : FVec Ideal S320x1024 .f32
  /-- the feature weights -/
  wf : FVec Ideal S1024x1024 .f32
  /-- the output weights -/
  wo : FVec Ideal S1024x1000 .f32
  /-- a finished beam's row -/
  a : FVec Ideal S1x1000 .f32
  /-- the allowed tokens -/
  mask : IVec S16x4x4x5x1000 1
  /-- the step -/
  n : IVec S_ 32
  /-- the last tokens -/
  t : IVec S16x20 32
  /-- the scores -/
  lp : FVec Ideal S16x4x5 .f32
  /-- the hidden rows -/
  h : FVec Ideal S320x1024 .f32
  /-- the tokens so far -/
  sq : IVec S16x20x12 32

/-- The carried arrays hold a beam set, after `n` steps and with the tokens `H` so far. -/
structure Holds (G : Given) (B : Beams) (n : ℕ) (H : Fin 16 → Fin 20 → Fin 12 → Fin 1000) (X : Carried) : Prop where
  e : ∀ v l, X.e (ix2 v l) = G.E v l
  wh : ∀ x l, X.wh (ix2 x l) = G.Wh x l
  f : ∀ (r : Fin 320) l, X.f (ix2 r l) = G.feat ⟨r.val / 20, by omega⟩ l
  wf : ∀ x l, X.wf (ix2 x l) = G.Wf x l
  wo : ∀ x v, X.wo (ix2 x v) = G.Wo x v
  a : ∀ v : Fin 1000, X.a (ix2 0 v) = if v.val = 2 then 0 else neg
  mask : ∀ b p s k v, X.mask (ix5 b p s k v) = 1#1 ↔ G.ok b p s v
  n : X.n ix0 = BitVec.ofNat 32 n
  t : ∀ b j, X.t (ix2 b j) = BitVec.ofNat 32 (B.tok b j).val
  lp : ∀ b (s : Fin 4) (k : Fin 5), X.lp (ix3 b s k) = B.lp b ⟨s.val * 5 + k.val, by omega⟩
  h : ∀ (r : Fin 320) l, X.h (ix2 r l) = B.h ⟨r.val / 20, by omega⟩ ⟨r.val % 20, by omega⟩ l
  sq : ∀ b j t, X.sq (ix3 b j t) = BitVec.ofNat 32 (H b j t).val

namespace Carried
variable (X : Carried)

/-- Where a state's rows stand in the table of allowed tokens. -/
theorem fits (s : Fin 4) : S16x4x4x5x1000.Slices (![0, 0, s.val, 0, 0]) S16x4x1x5x1000 := by
  revert s; decide

/-- The last tokens, beam by beam. -/
def row : IVec S320 32 := shapeCast S320 X.t shapeCasts_S16x20_S320
/-- The new hidden rows. -/
def hid' : FVec Ideal S320x1024 .f32 := hiddenA X.h X.wh X.e X.row X.f X.wf
/-- Their logits. -/
def lg : FVec Ideal S320x1000 .f32 := Host.dotGeneral dot_S320x1024_S1024x1000_S320x1000_1_0_0_1_n_n none X.hid' X.wo
/-- Their log-probabilities. -/
def cl : FVec Ideal S16x4x5x1000 .f32 := cleanA X.lg X.row X.a
/-- The scores into state `s`. -/
def into (s : Fin 4) : FVec Ideal S16x4x5x1000 .f32 := masked s X.mask X.cl (fits s)
/-- The candidates' scores into state `s`. -/
def cands (s : Fin 4) : FVec Ideal S16x100 .f32 := summed (X.into s) X.lp
/-- The candidates chosen for state `s`. -/
def picks (s : Fin 4) : IVec S16x5 32 := chosen (X.cands s)
/-- Their tokens. -/
def toks (s : Fin 4) : IVec S16x5 32 := taken (X.into s) (places (X.picks s))
/-- Their scores. -/
def tops (s : Fin 4) : FVec Ideal S16x5 .f32 := (Host.topK S16x5 1 (FloatOps.cmpfTotal .gt) (X.cands s) sliceFits_S16x100_S16x5).1
/-- The new last tokens. -/
def t' : IVec S16x20 32 := shapeCast S16x20 (stack4 (X.toks 0) (X.toks 1) (X.toks 2) (X.toks 3)) shapeCasts_S16x4x5_S16x20
/-- The new scores. -/
def lp' : FVec Ideal S16x4x5 .f32 := stack4 (X.tops 0) (X.tops 1) (X.tops 2) (X.tops 3)
/-- The beams continued. -/
def par' : IVec S16x20x1 32 := froms (beamsOf (stack4 (X.picks 0) (X.picks 1) (X.picks 2) (X.picks 3)))
/-- What is carried on. -/
def step : Carried :=
  { X with n := addi X.n (constantI S_ 32 1#32), t := X.t', lp := X.lp', h := carried X.hid' X.par', sq := written X.n X.t' X.sq X.par' }

end Carried

section
variable {G : Given} {B : Beams} {n : ℕ} {H : Fin 16 → Fin 20 → Fin 12 → Fin 1000} {X : Carried} (hX : Holds G B n H X)
include hX

theorem row_at (r : Fin 320) : X.row (ix1 r) = BitVec.ofNat 32 (B.tok ⟨r.val / 20, by omega⟩ ⟨r.val % 20, by omega⟩).val := by
  pointwise [Carried.row]
  exact hX.t _ _

theorem hid_at (r : Fin 320) (l : Fin 1024) : X.hid' (ix2 r l) = hid G B ⟨r.val / 20, by omega⟩ ⟨r.val % 20, by omega⟩ l := by
  refine (hiddenA_at X.h X.wh X.e X.row X.f X.wf r l _ (Fin.isLt _) (row_at hX r)).trans ?_
  simp only [hX.h, hX.wh, hX.e, hX.f, hX.wf]
  rfl

theorem lg_at (r : Fin 320) (v : Fin 1000) : X.lg (ix2 r v) = logit G (hid G B ⟨r.val / 20, by omega⟩ ⟨r.val % 20, by omega⟩) v := by
  have h1 := hid_at hX r
  have h2 := hX.wo
  pointwise [Carried.lg]
  simp only [h1, h2]
  rfl

theorem cl_at (b : Fin 16) (p : Fin 4) (k : Fin 5) (v : Fin 1000) : X.cl (ix4 b p k v) = clean G B b ⟨p.val * 5 + k.val, by omega⟩ v := by
  have e1 : (⟨(⟨b.val * 20 + p.val * 5 + k.val, by omega⟩ : Fin 320).val / 20, by omega⟩ : Fin 16) = b := Fin.ext (by show (b.val * 20 + p.val * 5 + k.val) / 20 = b.val; omega)
  have e2 : (⟨(⟨b.val * 20 + p.val * 5 + k.val, by omega⟩ : Fin 320).val % 20, by omega⟩ : Fin 20) = ⟨p.val * 5 + k.val, by omega⟩ := Fin.ext (by show (b.val * 20 + p.val * 5 + k.val) % 20 = p.val * 5 + k.val; omega)
  have hr := row_at hX ⟨b.val * 20 + p.val * 5 + k.val, by omega⟩
  rw [e1, e2] at hr
  refine (cleanA_at X.lg X.row X.a b p k v _ (Fin.isLt _) hr).trans ?_
  have hl : (fun v => X.lg (ix2 ⟨b.val * 20 + p.val * 5 + k.val, by omega⟩ v)) = logit G (hid G B b ⟨p.val * 5 + k.val, by omega⟩) := by
    funext v
    rw [lg_at hX, e1, e2]
  rw [hl, hX.a]
  rfl

theorem into_at (s : Fin 4) (b : Fin 16) (p : Fin 4) (k : Fin 5) (v : Fin 1000) : X.into s (ix4 b p k v) = sc G B s b ⟨p.val * 5 + k.val, by omega⟩ v := by
  refine (masked_at s X.mask X.cl _ b p k v).trans ?_
  rw [cl_at hX]
  have e : (⟨(p.val * 5 + k.val) / 5, by omega⟩ : Fin 4) = p := Fin.ext (by show (p.val * 5 + k.val) / 5 = p.val; omega)
  unfold sc allow
  dsimp only
  rw [e]
  by_cases h : X.mask (ix5 b p s k v) = 1#1
  · rw [if_pos h, if_pos ((hX.mask b p s k v).mp h)]
  · rw [if_neg h, if_neg (fun g => h ((hX.mask b p s k v).mpr g))]

theorem cands_at (s : Fin 4) (b : Fin 16) (q : Fin 100) : X.cands s (ix2 b q) = cand G B s b q := by
  have e : (⟨q.val / 25 * 5 + q.val / 5 % 5, by omega⟩ : Fin 20) = ⟨q.val / 5, by omega⟩ := Fin.ext (by show q.val / 25 * 5 + q.val / 5 % 5 = q.val / 5; omega)
  refine (summed_at (X.into s) X.lp b q).trans ?_
  simp only [into_at hX, hX.lp, e]
  rfl

theorem picks_at (s : Fin 4) (b : Fin 16) (k : Fin 5) : X.picks s (ix2 b k) = BitVec.ofNat 32 (top (cand G B s b) ⟨k.val, by omega⟩).val := by
  refine (topK1 (X.cands s) b k).2.trans ?_
  simp only [cands_at hX]

theorem tops_at (s : Fin 4) (b : Fin 16) (k : Fin 5) : X.tops s (ix2 b k) = cand G B s b (top (cand G B s b) ⟨k.val, by omega⟩) := by
  refine (topK1 (X.cands s) b k).1.trans ?_
  simp only [cands_at hX]

theorem toks_at (s : Fin 4) (b : Fin 16) (k : Fin 5) (q : Fin 100) (hq : q = top (cand G B s b) ⟨k.val, by omega⟩) :
    X.toks s (ix2 b k) = BitVec.ofNat 32 (best G B s b ⟨q.val / 5, by omega⟩ ⟨q.val % 5, by omega⟩).val := by
  have e : (⟨q.val / 25 * 5 + q.val / 5 % 5, by omega⟩ : Fin 20) = ⟨q.val / 5, by omega⟩ := Fin.ext (by show q.val / 25 * 5 + q.val / 5 % 5 = q.val / 5; omega)
  refine (taken_at (X.into s) _ b k q.val q.isLt (fun z => places_at _ b k q.val q.isLt ((picks_at hX s b k).trans (by rw [hq])) z)).trans ?_
  simp only [into_at hX, e]
  rfl

theorem t'_at (b : Fin 16) (j : Fin 20) : X.t' (ix2 b j) = BitVec.ofNat 32 ((next G B).tok b j).val := by
  pointwise [Carried.t']
  refine (stack4_at X.toks b _ _).trans ?_
  have h := toks_at hX ⟨j.val / 5, by omega⟩ b ⟨j.val % 5, by omega⟩ (pick G B b j) (by unfold pick; rfl)
  exact h

theorem lp'_at (b : Fin 16) (s : Fin 4) (k : Fin 5) : X.lp' (ix3 b s k) = (next G B).lp b ⟨s.val * 5 + k.val, by omega⟩ := by
  refine (stack4_at X.tops b s k).trans ((tops_at hX s b k).trans ?_)
  have e1 : (⟨(s.val * 5 + k.val) / 5, by omega⟩ : Fin 4) = s := Fin.ext (by show (s.val * 5 + k.val) / 5 = s.val; omega)
  have e2 : (⟨(s.val * 5 + k.val) % 5, by omega⟩ : Fin 100) = ⟨k.val, by omega⟩ := Fin.ext (by show (s.val * 5 + k.val) % 5 = k.val; omega)
  show _ = cand G B ⟨(s.val * 5 + k.val) / 5, _⟩ b (top (cand G B ⟨(s.val * 5 + k.val) / 5, _⟩ b) ⟨(s.val * 5 + k.val) % 5, _⟩)
  rw [e1, e2]

theorem par'_at (b : Fin 16) (j : Fin 20) (z : Fin 1) : X.par' (ix3 b j z) = BitVec.ofNat 32 (par G B b j).val := by
  refine froms_at _ b j _ (Fin.isLt _) ?_ z
  refine beamsOf_at _ b j (pick G B b j).val (Fin.isLt _) ?_
  refine (stack4_at X.picks b _ _).trans ?_
  have h := picks_at hX ⟨j.val / 5, by omega⟩ b ⟨j.val % 5, by omega⟩
  unfold pick
  exact h

theorem h'_at (r : Fin 320) (l : Fin 1024) : carried X.hid' X.par' (ix2 r l) = (next G B).h ⟨r.val / 20, by omega⟩ ⟨r.val % 20, by omega⟩ l := by
  obtain ⟨p, hp⟩ : ∃ p, p = par G B ⟨r.val / 20, by omega⟩ ⟨r.val % 20, by omega⟩ := ⟨_, rfl⟩
  have e1 : (⟨(r.val / 20 * 20 + p.val) / 20, by omega⟩ : Fin 16) = ⟨r.val / 20, by omega⟩ := Fin.ext (by show (r.val / 20 * 20 + p.val) / 20 = r.val / 20; omega)
  have e2 : (⟨(r.val / 20 * 20 + p.val) % 20, by omega⟩ : Fin 20) = p := Fin.ext (by show (r.val / 20 * 20 + p.val) % 20 = p.val; omega)
  have h1 := carried_at X.hid' X.par' r l p.val p.isLt (fun z => by rw [hp]; exact par'_at hX _ _ z)
  rw [h1, hid_at hX]
  dsimp only
  rw [e1, e2, hp]
  rfl

theorem sq'_at (hn : n < 11) (b : Fin 16) (j : Fin 20) (t : Fin 12) :
    written X.n X.t' X.sq X.par' (ix3 b j t) = BitVec.ofNat 32 (if t.val = n + 1 then (next G B).tok b j else H b (par G B b j) t).val := by
  rw [written_at X.n X.t' X.sq X.par' b j t n hn hX.n _ (Fin.isLt _) (par'_at hX b j), t'_at hX, hX.sq]
  split <;> rfl

theorem n'_at : addi X.n (constantI S_ 32 1#32) ix0 = BitVec.ofNat 32 (n + 1) := by
  show IntOp.addi (X.n ix0) 1#32 = _
  rw [hX.n]; exact (BitVec.ofNat_add n 1).symm

/-- One step. -/
theorem holds_step (hn : n < 11) : Holds G (next G B) (n + 1) (fun b j t => if t.val = n + 1 then (next G B).tok b j else H b (par G B b j) t) X.step :=
  ⟨hX.e, hX.wh, hX.f, hX.wf, hX.wo, hX.a, hX.mask, n'_at hX, t'_at hX, lp'_at hX, h'_at hX, sq'_at hX hn⟩

end

end Cert.Beam.Ref

end
-- ==== Proof.RefLoop.lean ====
module

public import proofs.«01_k».proof.Proof.RefStep
public import proofs.«01_k».proof.Proof.Data
public import proofs.«01_k».proof.Proof.Gen.ReferenceIdeal.Run
public import Idealize.ShloMosaic.Lib.Pointwise
public import Idealize.ShloMosaic.Lib.ReduceAll
public import Idealize.ShloMosaic.Lib.Tactic.CleanTypes

/-! The reference's own step, and what it starts from. -/

@[expose] public section

set_option maxRecDepth 16384

noncomputable section

namespace Cert.Beam.Ref

open Idealize.ShloMosaic Cert.ReferenceIdeal Cert.ReferenceIdeal.Gen Cert.ReferenceIdeal.Value

/-- The carried arrays in memory. -/
def carriedOf (V : Valuation τ sig (Elt Ideal)) : Carried where
  e := V (Proc.devRef .tc main_v35_0)
  wh := V (Proc.devRef .tc main_v35_1)
  f := V (Proc.devRef .tc main_v35_2)
  wf := V (Proc.devRef .tc main_v35_3)
  wo := V (Proc.devRef .tc main_v35_4)
  a := V (Proc.devRef .tc main_v35_5)
  mask := V (Proc.devRef .tc main_v35_6)
  n := V (Proc.devRef .tc main_v35_8)
  t := V (Proc.devRef .tc main_v35_9)
  lp := V (Proc.devRef .tc main_v35_10)
  h := V (Proc.devRef .tc main_v35_11)
  sq := V (Proc.devRef .tc main_v35_12)

section
variable (V : Valuation τ sig (Elt Ideal))

theorem r38 : (res_main_while0b_v38 V : IVec S320 32) = (carriedOf V).row := rfl
theorem r50 : (res_main_while0b_v50 V : FVec Ideal S320x1024 .f32) = (carriedOf V).hid' := by
  unfold res_main_while0b_v50; rw [r38]; rfl
theorem r51 : (res_main_while0b_v51 V : FVec Ideal S320x1000 .f32) = (carriedOf V).lg := by
  unfold res_main_while0b_v51; rw [r50]; rfl
theorem r57 : (res_main_while0b_v57 V : FVec Ideal S16x4x5x1000 .f32) = (carriedOf V).cl := by
  unfold res_main_while0b_v57 res_main_while0b_call3_v5; rw [r51, r38]; rfl

/-- The scores into the four states. -/
theorem rInto : (res_main_while0b_v62 V : FVec Ideal S16x4x5x1000 .f32) = (carriedOf V).into 0 ∧ (res_main_while0b_v69 V : FVec Ideal S16x4x5x1000 .f32) = (carriedOf V).into 1
    ∧ (res_main_while0b_v76 V : FVec Ideal S16x4x5x1000 .f32) = (carriedOf V).into 2 ∧ (res_main_while0b_v83 V : FVec Ideal S16x4x5x1000 .f32) = (carriedOf V).into 3 := by
  unfold res_main_while0b_v62 res_main_while0b_v69 res_main_while0b_v76 res_main_while0b_v83
  rw [r57]
  exact ⟨rfl, rfl, rfl, rfl⟩

/-- The candidates' scores into the four states. -/
theorem rCands : (res_main_while0b_v64 V : FVec Ideal S16x100 .f32) = (carriedOf V).cands 0 ∧ (res_main_while0b_v71 V : FVec Ideal S16x100 .f32) = (carriedOf V).cands 1
    ∧ (res_main_while0b_v78 V : FVec Ideal S16x100 .f32) = (carriedOf V).cands 2 ∧ (res_main_while0b_v85 V : FVec Ideal S16x100 .f32) = (carriedOf V).cands 3 := by
  obtain ⟨h0, h1, h2, h3⟩ := rInto V
  unfold res_main_while0b_v64 res_main_while0b_v71 res_main_while0b_v78 res_main_while0b_v85
  rw [h0, h1, h2, h3]
  exact ⟨rfl, rfl, rfl, rfl⟩

/-- The candidates chosen for the four states. -/
theorem rPicks : (res_main_while0b_indices_26 V : IVec S16x5 32) = (carriedOf V).picks 0 ∧ (res_main_while0b_indices_31 V : IVec S16x5 32) = (carriedOf V).picks 1
    ∧ (res_main_while0b_indices_36 V : IVec S16x5 32) = (carriedOf V).picks 2 ∧ (res_main_while0b_indices_41 V : IVec S16x5 32) = (carriedOf V).picks 3 := by
  obtain ⟨h0, h1, h2, h3⟩ := rCands V
  unfold res_main_while0b_indices_26 res_main_while0b_indices_31 res_main_while0b_indices_36 res_main_while0b_indices_41
  rw [h0, h1, h2, h3]
  exact ⟨rfl, rfl, rfl, rfl⟩

theorem r93 : (res_main_while0b_v93 V : IVec S16x20 32) = (carriedOf V).t' := by
  obtain ⟨h0, h1, h2, h3⟩ := rInto V
  obtain ⟨g0, g1, g2, g3⟩ := rPicks V
  unfold res_main_while0b_v93 res_main_while0b_call6_v5 res_main_while0b_call8_v5 res_main_while0b_call10_v5 res_main_while0b_call12_v5
  rw [h0, h1, h2, h3, g0, g1, g2, g3]
  rfl

theorem r10 : (step_main_v35_10 V : FVec Ideal S16x4x5 .f32) = (carriedOf V).lp' := by
  obtain ⟨h0, h1, h2, h3⟩ := rCands V
  unfold step_main_v35_10
  rw [h0, h1, h2, h3]
  rfl

theorem r105 : (res_main_while0b_v105 V : IVec S16x20 32) = beamsOf (stack4 ((carriedOf V).picks 0) ((carriedOf V).picks 1) ((carriedOf V).picks 2) ((carriedOf V).picks 3)) := by
  obtain ⟨g0, g1, g2, g3⟩ := rPicks V
  unfold res_main_while0b_v105 res_main_while0b_call13_v2 res_main_while0b_call13_v0 res_main_while0b_v103
  rw [g0, g1, g2, g3]
  rfl

theorem r14 : (res_main_while0b_call14_v4 V : IVec S16x20x1 32) = (carriedOf V).par' := by
  unfold res_main_while0b_call14_v4 res_main_while0b_v107
  rw [r105]
  rfl
theorem r15 : (res_main_while0b_call15_v4 V : IVec S16x20x1 32) = (carriedOf V).par' := by
  unfold res_main_while0b_call15_v4 res_main_while0b_v110
  rw [r105]
  rfl

theorem r11 : (step_main_v35_11 V : FVec Ideal S320x1024 .f32) = carried (carriedOf V).hid' (carriedOf V).par' := by
  unfold step_main_v35_11
  rw [r14, r50]
  rfl

theorem r12 : (step_main_v35_12 V : IVec S16x20x12 32) = written (carriedOf V).n (carriedOf V).t' (carriedOf V).sq (carriedOf V).par' := by
  unfold step_main_v35_12
  rw [r15, r93]
  rfl

/-- The reference's step steps what it carries. -/
theorem carriedOf_step : carriedOf (STEP V) = (carriedOf V).step := by
  unfold carriedOf Carried.step
  simp only [STEP_main_v35_0, STEP_main_v35_1, STEP_main_v35_2, STEP_main_v35_3, STEP_main_v35_4, STEP_main_v35_5, STEP_main_v35_6, STEP_main_v35_8, STEP_main_v35_9, STEP_main_v35_10, STEP_main_v35_11, STEP_main_v35_12]
  congr 1

/-- After `k` steps. -/
theorem holds_run (G : Given) (h : Holds G (beams0 G) 0 (fun b j _ => (beams G 0).tok b j) (carriedOf V)) (k : ℕ) (hk : k ≤ 11) :
    Holds G (beams G k) k (fun b j t => hist G b k j t) (carriedOf (STEP^[k] V)) := by
  induction k with
  | zero => exact h
  | succ k ih =>
    rw [Function.iterate_succ_apply', carriedOf_step]
    exact holds_step (ih (by omega)) (by omega)

end

end Cert.Beam.Ref

end
-- ==== Proof.RefStart.lean ====
module

public import proofs.«01_k».proof.Proof.RefLoop
public import proofs.«01_k».proof.Proof.Data
public import proofs.«01_k».proof.Proof.Gen.ReferenceIdeal.Run
public import Idealize.ShloMosaic.Lib.Pointwise
public import Idealize.ShloMosaic.Lib.ReduceAll
public import Idealize.ShloMosaic.Lib.Tactic.CleanTypes

/-! What the reference starts from, and what it returns. -/

@[expose] public section

set_option maxRecDepth 16384

noncomputable section

namespace Cert.Beam.Ref

open Idealize.ShloMosaic Cert.ReferenceIdeal Cert.ReferenceIdeal.Gen Cert.ReferenceIdeal.Value

section
variable (x0 : FVec Ideal S16x1024 .f32) (x1 : IVec S16 32) (x2 : FVec Ideal S16x1024 .f32) (x3 : IVec S16x4x4x1000 1) (x5 : FVec Ideal S1000x1024 .f32)
  (x6 x7 : FVec Ideal S1024x1024 .f32) (x8 : FVec Ideal S1024x1000 .f32)

/-- The first step's scores. -/
def start0 : FVec Ideal S16x4x1000 .f32 :=
  scores0A (Host.dotGeneral dot_S16x1024_S1024x1000_S16x1000_1_0_0_1_n_n none (hidden0A x2 x6 x5 x1 x0 x7) x8) x3

/-- The first beams' tokens. -/
def startT : IVec S16x20 32 := shapeCast S16x20 (Host.topK S16x4x5 2 (FloatOps.cmpfTotal .gt) (start0 x0 x1 x2 x3 x5 x6 x7 x8) sliceFits_S16x4x1000_S16x4x5).2 shapeCasts_S16x4x5_S16x20

/-- What the loop starts from. -/
def start : Carried where
  e := x5
  wh := x6
  f := shapeCast S320x1024 (broadcastInDim S16x4x5x1024 ![0, 1, 2, 3] bcast_S16x1x1x1024_S16x4x5x1024_0_1_2_3 (broadcastInDim S16x1x1x1024 ![0, 3] bcast_S16x1024_S16x1x1x1024_0_3 x0)) shapeCasts_S16x4x5x1024_S320x1024
  wf := x7
  wo := x8
  a := broadcastInDim S1x1000 ![1] bcast_S1000_S1x1000_1 (select (cmpi .eq (iotaInDim S1000 32 0) (broadcastInDim S1000 ![] bcast_S_S1000 (constantI S_ 32 2#32))) (broadcastInDim S1000 ![] bcast_S_S1000 (constant S_ .f32 0x00000000#32)) (broadcastInDim S1000 ![] bcast_S_S1000 (constant S_ .f32 0xE0AD78EC#32)))
  mask := broadcastInDim S16x4x4x5x1000 ![0, 1, 2, 3, 4] bcast_S16x4x4x1x1000_S16x4x4x5x1000_0_1_2_3_4 (shapeCast S16x4x4x1x1000 x3 shapeCasts_S16x4x4x1000_S16x4x4x1x1000)
  n := constantI S_ 32 0#32
  t := startT x0 x1 x2 x3 x5 x6 x7 x8
  lp := (Host.topK S16x4x5 2 (FloatOps.cmpfTotal .gt) (start0 x0 x1 x2 x3 x5 x6 x7 x8) sliceFits_S16x4x1000_S16x4x5).1
  h := shapeCast S320x1024 (broadcastInDim S16x4x5x1024 ![0, 1, 2, 3] bcast_S16x1x1x1024_S16x4x5x1024_0_1_2_3 (broadcastInDim S16x1x1x1024 ![0, 3] bcast_S16x1024_S16x1x1x1024_0_3 (hidden0A x2 x6 x5 x1 x0 x7))) shapeCasts_S16x4x5x1024_S320x1024
  sq := broadcastInDim S16x20x12 ![0, 1, 2] bcast_S16x20x1_S16x20x12_0_1_2 (broadcastInDim S16x20x1 ![0, 1] bcast_S16x20_S16x20x1_0_1 (startT x0 x1 x2 x3 x5 x6 x7 x8))

variable (hb : Bounded x8) (ht : Tokens x1)

/-- What the search is given by these arrays. -/
abbrev gv : Given := given x0 x1 x2 x3 x5 x6 x7 x8 hb

theorem spread_at (y : FVec Ideal S16x1024 .f32) (r : Fin 320) (l : Fin 1024) :
    shapeCast S320x1024 (broadcastInDim S16x4x5x1024 ![0, 1, 2, 3] bcast_S16x1x1x1024_S16x4x5x1024_0_1_2_3 (broadcastInDim S16x1x1x1024 ![0, 3] bcast_S16x1024_S16x1x1x1024_0_3 y)) shapeCasts_S16x4x5x1024_S320x1024 (ix2 r l)
      = y (ix2 ⟨r.val / 20, by omega⟩ l) := by
  pointwise []

include ht in
theorem first_at (b : Fin 16) (l : Fin 1024) : hidden0A x2 x6 x5 x1 x0 x7 (ix2 b l) = first (gv x0 x1 x2 x3 x5 x6 x7 x8 hb) b l := by
  refine (hidden0A_at x2 x6 x5 x1 x0 x7 b l ((x1 (ix1 b)).toNat % 1000) (by omega) (first_token _ (ht b))).trans ?_
  rfl

include ht in
theorem start0_at (b : Fin 16) (s : Fin 4) (v : Fin 1000) : start0 x0 x1 x2 x3 x5 x6 x7 x8 (ix3 b s v) = sc0 (gv x0 x1 x2 x3 x5 x6 x7 x8 hb) b s v := by
  have hf := first_at x0 x1 x2 x3 x5 x6 x7 x8 hb ht b
  have hz : (fun v => Host.dotGeneral dot_S16x1024_S1024x1000_S16x1000_1_0_0_1_n_n none (hidden0A x2 x6 x5 x1 x0 x7) x8 (ix2 b v)) = logit (gv x0 x1 x2 x3 x5 x6 x7 x8 hb) (first (gv x0 x1 x2 x3 x5 x6 x7 x8 hb) b) := by
    funext v
    pointwise []
    simp only [hf]
    rfl
  refine (scores0A_at _ x3 b s v).trans ?_
  rw [hz]
  unfold sc0 allow
  by_cases h : x3 (ix4 b 0 s v) = 1#1
  · rw [if_pos h]; exact (if_pos h).symm
  · rw [if_neg h]; exact (if_neg h).symm

include ht in
theorem startT_at (b : Fin 16) (j : Fin 20) : startT x0 x1 x2 x3 x5 x6 x7 x8 (ix2 b j) = BitVec.ofNat 32 ((beams0 (gv x0 x1 x2 x3 x5 x6 x7 x8 hb)).tok b j).val := by
  have hs := start0_at x0 x1 x2 x3 x5 x6 x7 x8 hb ht b
  pointwise [startT]
  rw [(topK2 _ b _ _).2]
  simp only [hs]
  rfl

include ht in
theorem startLp_at (b : Fin 16) (s : Fin 4) (k : Fin 5) : (start x0 x1 x2 x3 x5 x6 x7 x8).lp (ix3 b s k) = (beams0 (gv x0 x1 x2 x3 x5 x6 x7 x8 hb)).lp b ⟨s.val * 5 + k.val, by omega⟩ := by
  have hs := start0_at x0 x1 x2 x3 x5 x6 x7 x8 hb ht b
  have e1 : (⟨(s.val * 5 + k.val) / 5, by omega⟩ : Fin 4) = s := Fin.ext (by show (s.val * 5 + k.val) / 5 = s.val; omega)
  have e2 : (⟨(s.val * 5 + k.val) % 5, by omega⟩ : Fin 1000) = ⟨k.val, by omega⟩ := Fin.ext (by show (s.val * 5 + k.val) % 5 = k.val; omega)
  unfold start
  refine (topK2 (start0 x0 x1 x2 x3 x5 x6 x7 x8) b s k).1.trans ?_
  simp only [hs]
  show _ = sc0 (gv x0 x1 x2 x3 x5 x6 x7 x8 hb) b ⟨(s.val * 5 + k.val) / 5, _⟩ (top (sc0 (gv x0 x1 x2 x3 x5 x6 x7 x8 hb) b ⟨(s.val * 5 + k.val) / 5, _⟩) ⟨(s.val * 5 + k.val) % 5, _⟩)
  rw [e1, e2]

theorem startA_at (v : Fin 1000) : (start x0 x1 x2 x3 x5 x6 x7 x8).a (ix2 0 v) = if v.val = 2 then 0 else neg := by
  unfold start
  pointwise []
  rw [sel_ofNat _ _ (by omega) (by omega)]

theorem startMask_at (b : Fin 16) (p s : Fin 4) (k : Fin 5) (v : Fin 1000) : (start x0 x1 x2 x3 x5 x6 x7 x8).mask (ix5 b p s k v) = x3 (ix4 b p s v) := by
  unfold start
  pointwise []

include ht in
theorem startSq_at (b : Fin 16) (j : Fin 20) (t : Fin 12) : (start x0 x1 x2 x3 x5 x6 x7 x8).sq (ix3 b j t) = BitVec.ofNat 32 ((beams0 (gv x0 x1 x2 x3 x5 x6 x7 x8 hb)).tok b j).val := by
  rw [← startT_at x0 x1 x2 x3 x5 x6 x7 x8 hb ht b j]
  unfold start
  pointwise []

include ht in
/-- The start holds the first beams. -/
theorem holds_start : Holds (gv x0 x1 x2 x3 x5 x6 x7 x8 hb) (beams0 (gv x0 x1 x2 x3 x5 x6 x7 x8 hb)) 0 (fun b j _ => (beams (gv x0 x1 x2 x3 x5 x6 x7 x8 hb) 0).tok b j) (start x0 x1 x2 x3 x5 x6 x7 x8) :=
  ⟨fun _ _ => rfl, fun _ _ => rfl, spread_at x0, fun _ _ => rfl, fun _ _ => rfl, startA_at x0 x1 x2 x3 x5 x6 x7 x8, fun b p s k v => by rw [startMask_at]; rfl,
    rfl, startT_at x0 x1 x2 x3 x5 x6 x7 x8 hb ht, startLp_at x0 x1 x2 x3 x5 x6 x7 x8 hb ht, fun r l => (spread_at _ r l).trans (first_at x0 x1 x2 x3 x5 x6 x7 x8 hb ht _ l),
    startSq_at x0 x1 x2 x3 x5 x6 x7 x8 hb ht⟩

end

end Cert.Beam.Ref

end
-- ==== Proof.RefRun.lean ====
module

public import proofs.«01_k».proof.Proof.RefStart
public import proofs.«01_k».proof.Proof.Data
public import proofs.«01_k».proof.Proof.Gen.ReferenceIdeal.Run
public import Idealize.ShloMosaic.Lib.Pointwise
public import Idealize.ShloMosaic.Lib.ReduceAll
public import Idealize.ShloMosaic.Lib.Tactic.CleanTypes

/-! The reference's run ends with the search's tokens and scores. -/

@[expose] public section

set_option maxRecDepth 16384

noncomputable section

namespace Cert.Beam.Ref

open Idealize.ShloMosaic Idealize.ShloMosaic.TcCoe Idealize.ShloMosaic.Tactic Idealize.SL.Sem Idealize.ShloMosaic.StableHlo Cert.ReferenceIdeal Cert.ReferenceIdeal.Gen Cert.ReferenceIdeal.Value

variable (m : (ℓ : Loc nD τ sig) → Buf (Elt Ideal) ℓ) (c : Dev nD)

/-- What the loop starts from, of the arguments in memory. -/
def startOf : Carried :=
  start (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg6)) (m ((c.tc : Thread nD τ).loc main_arg7)) (m ((c.tc : Thread nD τ).loc main_arg8))

/-- The loop's entry holds the start. -/
theorem entry : carriedOf (entryContents preI m c) = startOf m c := by
  unfold carriedOf startOf start
  rw [Carried.mk.injEq]
  refine ⟨?_, ?_, ?_, ?_, ?_, ?_, ?_, ?_, ?_, ?_, ?_, ?_⟩ <;>
    (simp only [entryContents, afterL_cons, afterL_nil]; after_reads_simp; rfl)

/-- The last reshape of the tokens. -/
theorem out_at (x : IVec S16x20x12 32) (b : Fin 16) (s : Fin 4) (k : Fin 5) (t : Fin 12) :
    shapeCast S16x4x5x12 x shapeCasts_S16x20x12_S16x4x5x12 (ix4 b s k t) = x (ix3 b ⟨s.val * 5 + k.val, by omega⟩ t) := by
  pointwise []

variable (hb : Bounded (m ((c.tc : Thread nD τ).loc main_arg8))) (ht : Tokens (m ((c.tc : Thread nD τ).loc main_arg1)))

/-- What the search is given by the arguments in memory. -/
abbrev refData : Given :=
  given (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg6)) (m ((c.tc : Thread nD τ).loc main_arg7)) (m ((c.tc : Thread nD τ).loc main_arg8)) hb

include ht in
theorem holds_end : Holds (refData m c hb) (beams (refData m c hb) 11) 11 (fun b j t => hist (refData m c hb) b 11 j t) (carriedOf (STEP^[11] (entryContents preI m c))) := by
  refine holds_run _ _ ?_ 11 (by omega)
  rw [entry]
  exact holds_start _ _ _ _ _ _ _ _ hb ht

include ht in
theorem ref_tokens : out_main_v36 (STEP^[11] (entryContents preI m c)) = tokensOut (refData m c hb) := by
  have h := (holds_end m c hb ht).sq
  funext y
  idx_vars y
  exact (out_at _ y0 y1 y2 y3).trans (h y0 ⟨y1.val * 5 + y2.val, by omega⟩ y3)

include ht in
theorem ref_scores : (STEP^[11] (entryContents preI m c)) (Proc.devRef .tc main_v35_10) = scoresOut (refData m c hb) := by
  have h := (holds_end m c hb ht).lp
  funext y
  idx_vars y
  exact h y0 y1 y2

end Cert.Beam.Ref

end
-- ==== Proof.Inputs.lean ====
module

public import proofs.«01_k».proof.Pre_in_range
public import proofs.«01_k».proof.Proof.Data
public import Idealize.ShloMosaic.Lib.Pointwise
public import Idealize.ShloMosaic.Lib.ReduceAll

/-! What the precondition says of the arguments. -/

@[expose] public section

set_option maxRecDepth 16384

noncomputable section

namespace Cert.Beam

open Idealize.ShloMosaic Cert.Pre_in_range

/-- The precondition's stated facts. -/
theorem preFacts : Cert.Pre_in_range.Facts := ⟨by decide, by decide, by decide, by decide, by decide⟩

theorem both {x y : BitVec 1} (h : IntOp.andi x y = 1#1) : x = 1#1 ∧ y = 1#1 := by
  revert x y; decide

theorem token_range (x : BitVec 32) (h0 : BitVec.ofBool ((0#32).sle x) = 1#1) (h1 : BitVec.ofBool (x.slt 1000#32) = 1#1) : x.toNat < 1000 := by
  have e0 : (0#32).sle x = true := by revert h0; cases (0#32).sle x <;> decide
  have e1 : x.slt 1000#32 = true := by revert h1; cases x.slt 1000#32 <;> decide
  have a0 := BitVec.sle_iff_toInt_le.mp e0
  have a1 := BitVec.slt_iff_toInt_lt.mp e1
  have c0 : (0#32).toInt = 0 := by decide
  have c1 : (1000#32).toInt = 1000 := by decide
  rw [c0] at a0
  rw [c1] at a1
  have a2 : x.toNat < 2 ^ 32 := x.isLt
  rw [BitVec.toInt_eq_toNat_cond] at a0 a1
  split at a0
  · rename_i h
    rw [if_pos h] at a1
    omega
  · omega

/-- The bound's literal is at most `10 ^ 15`. -/
theorem bound_lit : Ideal.ofBits .f32 0x58635FA9#32 ≤ ((1000000000000000 : ℝ) : EReal) := by
  have h : Ideal.ofBits .f32 0x58635FA9#32 = ((999999986991104 : ℝ) : EReal) := by
    simp [Ideal.ofBits, Ideal.ieee, -EReal.coe_mul]; norm_num
  rw [h]
  exact EReal.coe_le_coe_iff.mpr (by norm_num)

theorem abs_range (x : EReal) (h : Ideal.cmp .ole (max x (-x)) (Ideal.ofBits .f32 0x58635FA9#32) = 1#1) :
    -((1000000000000000 : ℝ) : EReal) ≤ x ∧ x ≤ ((1000000000000000 : ℝ) : EReal) := by
  have hle : max x (-x) ≤ Ideal.ofBits .f32 0x58635FA9#32 := by
    by_contra hn
    have e : Ideal.cmp .ole (max x (-x)) (Ideal.ofBits .f32 0x58635FA9#32) = BitVec.ofBool (decide (max x (-x) ≤ Ideal.ofBits .f32 0x58635FA9#32)) := rfl
    rw [e, decide_eq_false hn] at h
    exact absurd h (by decide)
  have hl := hle.trans bound_lit
  exact ⟨EReal.neg_le.mp ((le_max_right _ _).trans hl), (le_max_left _ _).trans hl⟩

section
variable [Cert.Pre_in_range.Facts] (x0 : FVec Ideal S16x1024 .f32) (x1 : IVec S16 32) (x2 : FVec Ideal S16x1024 .f32) (x3 : IVec S16x4x4x1000 1) (x4 : IVec S16 32)
  (x5 : FVec Ideal S1000x1024 .f32) (x6 x7 : FVec Ideal S1024x1024 .f32) (x8 : FVec Ideal S1024x1000 .f32)

/-- Under the precondition the first tokens are in the vocabulary and the output weights are bounded. -/
theorem in_range (h : fn x0 x1 x2 x3 x4 x5 x6 x7 x8 ix0 = 1#1) : Tokens x1 ∧ Bounded x8 := by
  dsimp only [fn] at h
  have h' := both h
  haveI : Subsingleton S_.Idx := ⟨fun a b => funext fun i => i.elim0⟩
  constructor
  · intro b
    have hp := both (Host.reduce_andi_all _ _ _ _ ix0 h'.1 (ix1 b))
    exact token_range _ hp.1 hp.2
  · intro k v
    have hp := Host.reduce_andi_all _ _ _ _ ix0 h'.2 (ix2 k v)
    exact abs_range _ hp

end

/-- Equal arguments give the search the same. -/
theorem given_congr {x0 y0 : (⟨2, ![16, 1024]⟩ : Shape).Idx → EReal} {x1 y1 : (⟨1, ![16]⟩ : Shape).Idx → BitVec 32} {x2 y2 : (⟨2, ![16, 1024]⟩ : Shape).Idx → EReal}
    {x3 y3 : (⟨4, ![16, 4, 4, 1000]⟩ : Shape).Idx → BitVec 1} {x5 y5 : (⟨2, ![1000, 1024]⟩ : Shape).Idx → EReal} {x6 y6 x7 y7 : (⟨2, ![1024, 1024]⟩ : Shape).Idx → EReal}
    {x8 y8 : (⟨2, ![1024, 1000]⟩ : Shape).Idx → EReal} (e0 : x0 = y0) (e1 : x1 = y1) (e2 : x2 = y2) (e3 : x3 = y3) (e5 : x5 = y5) (e6 : x6 = y6) (e7 : x7 = y7) (e8 : x8 = y8)
    (hx : Bounded x8) (hy : Bounded y8) : given x0 x1 x2 x3 x5 x6 x7 x8 hx = given y0 y1 y2 y3 y5 y6 y7 y8 hy := by
  subst e0 e1 e2 e3 e5 e6 e7 e8
  rfl

end Cert.Beam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import proofs.«01_k».proof.Proof.Inputs
public import Idealize.ShloMosaic.Adequacy
public import Idealize.ShloMosaic.Init

@[expose] public section

noncomputable section

namespace Cert.Proof

open Idealize.ShloMosaic Idealize.SL.Sem Cert.Kernel

/-- The reference runs from every memory, leaves its arguments and ends with every counter at zero. -/
theorem frame_reference : Cert.quiescent_ReferenceIdeal (hReferenceIdeal := Cert.ReferenceIdeal.Gen.facts) :=
  fun m ρ _ => (θ_run _ _ _).mono
    (fun r h => ⟨fun c => (h c).2.2, Idealize.ShloMosaic.sem_eq_zero_of_no_sems (by decide) r.2⟩)
    (Cert.ReferenceIdeal.Value.run m ρ)

/-- Kernel and reference end with the same tokens and the same scores. -/
theorem equal_results : Cert.algebraic_KernelIdeal_ReferenceIdeal_pre_in_range (hKernelIdeal := Cert.KernelIdeal.Gen.facts)
    (hReferenceIdeal := Cert.ReferenceIdeal.Gen.facts) (hPre_in_range := Cert.Beam.preFacts) := by
  intro m g m' g' hpre hargs
  have hin := fun c => @Cert.Beam.in_range Cert.Beam.preFacts _ _ _ _ _ _ _ _ _ (congrFun (hpre c) ix0)
  have hdata : ∀ c : Dev Cert.KernelIdeal.nD, ∃ (hb : Cert.Beam.Bounded (m' ((c.tc : Thread Cert.ReferenceIdeal.nD Cert.ReferenceIdeal.τ).loc Cert.ReferenceIdeal.main_arg8))),
      Cert.Beam.Tokens (m' ((c.tc : Thread Cert.ReferenceIdeal.nD Cert.ReferenceIdeal.τ).loc Cert.ReferenceIdeal.main_arg1))
        ∧ Cert.Beam.Ref.refData m' c hb = Cert.Beam.data m c (hin c).2 := by
    intro c
    obtain ⟨a0, a1, a2, a3, _, a5, a6, a7, a8⟩ := hargs c
    have hb : Cert.Beam.Bounded (m' ((c.tc : Thread Cert.ReferenceIdeal.nD Cert.ReferenceIdeal.τ).loc Cert.ReferenceIdeal.main_arg8)) := by
      rw [a8]; exact (hin c).2
    refine ⟨hb, by rw [a1]; exact (hin c).1, ?_⟩
    exact Cert.Beam.given_congr a0 a1 a2 a3 a5 a6 a7 a8 _ _
  refine ⟨fun c => Cert.Beam.tokensOut (Cert.Beam.data m c (hin c).2), fun c => Cert.Beam.scoresOut (Cert.Beam.data m c (hin c).2),
    Cert.Beam.run_kernel m g (fun c => (hin c).2) (fun c => (hin c).1), ?_⟩
  refine (θ_run _ _ _).mono (fun r h c => ?_) (Cert.ReferenceIdeal.Value.run m' g')
  obtain ⟨hb, ht, hd⟩ := hdata c
  obtain ⟨h0, h1, hrest⟩ := h c
  exact ⟨(h0.trans (Cert.Beam.Ref.ref_tokens m' c hb ht)).trans (congrArg Cert.Beam.tokensOut hd),
    (h1.trans (Cert.Beam.Ref.ref_scores m' c hb ht)).trans (congrArg Cert.Beam.scoresOut hd), hrest⟩

theorem claim : Cert.Claim :=
  ⟨Cert.Kernel.Gen.facts, Cert.KernelIdeal.Gen.facts, Cert.ReferenceIdeal.Gen.facts, Cert.Beam.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    IdealRules.named_const.statement Cert.KernelIdeal.κ "mask" .f32 0xF149F2CA#32 ⊥ rfl,
    equal_results⟩

end Cert.Proof

end
